-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 8192]⟩ (Layout.meshBlock [2, 2, 4] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x512 : Shape := ⟨2, ![256, 512]⟩
abbrev S512x4096 : Shape := ⟨2, ![512, 4096]⟩
abbrev S256x8192 : Shape := ⟨2, ![256, 8192]⟩
abbrev S8 : Shape := ⟨1, ![8]⟩
abbrev S_ : Shape := ⟨0, ![]⟩
abbrev S512x512 : Shape := ⟨2, ![512, 512]⟩
abbrev S1 : Shape := ⟨1, ![1]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S256x8192, .f32⟩
  | .local _ .vmem, ⟨0, _⟩ => ⟨S256x512, .f32⟩
  | .local _ .vmem, ⟨1, _⟩ => ⟨S512x4096, .f32⟩
  | .local _ .vmem, ⟨2, _⟩ => ⟨S256x8192, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4 : BitVec 32 := 8#32
  let v11 : BitVec 32 := Scalar.muli v9 c8_i32_4
  let v12 : BitVec 32 := Scalar.addi c0_i32 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) (c0_i32_8 : BitVec 32) : Fin 2 → Nat :=
  let c0_12 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32 : BitVec 32 := 4096#32
  let v17 : BitVec 32 := Scalar.muli v2 c4096_i32
  let v18 : BitVec 32 := Scalar.addi v17 c0_i32_8
  let v24 : Index := Scalar.indexCast v18
  ![0, v24.toNat]
def k0_off2 (d0 : Dev nD) (c0_i32_8 : BitVec 32) : Fin 2 → Nat :=
  let c0_i32_19 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4096_i32 : BitVec 32 := 4096#32
  let v17 : BitVec 32 := Scalar.muli v2 c4096_i32
  let v18 : BitVec 32 := Scalar.addi v17 c0_i32_8
  ![0, v18.toNat]
def k0_dev2 (d0 : Dev nD) : Nat :=
  let c0_i32_16 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_15 : BitVec 32 := 8#32
  let v26 : BitVec 32 := Scalar.muli v9 c8_i32_15
  let v27 : BitVec 32 := Scalar.addi c0_i32_16 v26
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_17 : BitVec 32 := 4#32
  let v28 : BitVec 32 := Scalar.muli v5 c4_i32_17
  let v29 : BitVec 32 := Scalar.addi v27 v28
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_18 : BitVec 32 := 1#32
  let v30 : BitVec 32 := Scalar.muli v8 c1_i32_18
  let v31 : BitVec 32 := Scalar.addi v29 v30
  v31.toNat
def k0_dev3 (d0 : Dev nD) : Nat :=
  let c0_i32_29 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_28 : BitVec 32 := 8#32
  let v46 : BitVec 32 := Scalar.muli v9 c8_i32_28
  let v47 : BitVec 32 := Scalar.addi c0_i32_29 v46
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_30 : BitVec 32 := 4#32
  let v48 : BitVec 32 := Scalar.muli v5 c4_i32_30
  let v49 : BitVec 32 := Scalar.addi v47 v48
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v50 : BitVec 32 := Scalar.muli v8 c1_i32_31
  let v51 : BitVec 32 := Scalar.addi v49 v50
  v51.toNat
def k0_dev4 (d0 : Dev nD) : Nat :=
  let c0_i32_42 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_41 : BitVec 32 := 8#32
  let v66 : BitVec 32 := Scalar.muli v9 c8_i32_41
  let v67 : BitVec 32 := Scalar.addi c0_i32_42 v66
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_43 : BitVec 32 := 4#32
  let v68 : BitVec 32 := Scalar.muli v5 c4_i32_43
  let v69 : BitVec 32 := Scalar.addi v67 v68
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v70 : BitVec 32 := Scalar.muli v8 c1_i32_44
  let v71 : BitVec 32 := Scalar.addi v69 v70
  v71.toNat
def k0_dev5 (d0 : Dev nD) : Nat :=
  let c0_i32_54 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_53 : BitVec 32 := 8#32
  let v86 : BitVec 32 := Scalar.muli v9 c8_i32_53
  let v87 : BitVec 32 := Scalar.addi c0_i32_54 v86
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_55 : BitVec 32 := 4#32
  let v88 : BitVec 32 := Scalar.muli v5 c4_i32_55
  let v89 : BitVec 32 := Scalar.addi v87 v88
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_56 : BitVec 32 := 1#32
  let v90 : BitVec 32 := Scalar.muli v8 c1_i32_56
  let v91 : BitVec 32 := Scalar.addi v89 v90
  v91.toNat
def k0_dev6 (d0 : Dev nD) : Nat :=
  let c0_i32_67 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_66 : BitVec 32 := 8#32
  let v106 : BitVec 32 := Scalar.muli v9 c8_i32_66
  let v107 : BitVec 32 := Scalar.addi c0_i32_67 v106
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_68 : BitVec 32 := 4#32
  let v108 : BitVec 32 := Scalar.muli v5 c4_i32_68
  let v109 : BitVec 32 := Scalar.addi v107 v108
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v110 : BitVec 32 := Scalar.muli v8 c1_i32_69
  let v111 : BitVec 32 := Scalar.addi v109 v110
  v111.toNat
def k0_dev7 (d0 : Dev nD) : Nat :=
  let c0_i32_79 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_78 : BitVec 32 := 8#32
  let v126 : BitVec 32 := Scalar.muli v9 c8_i32_78
  let v127 : BitVec 32 := Scalar.addi c0_i32_79 v126
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_80 : BitVec 32 := 4#32
  let v128 : BitVec 32 := Scalar.muli v5 c4_i32_80
  let v129 : BitVec 32 := Scalar.addi v127 v128
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v130 : BitVec 32 := Scalar.muli v8 c1_i32_81
  let v131 : BitVec 32 := Scalar.addi v129 v130
  v131.toNat
def k0_dev8 (d0 : Dev nD) : Nat :=
  let c0_i32_91 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_90 : BitVec 32 := 8#32
  let v146 : BitVec 32 := Scalar.muli v9 c8_i32_90
  let v147 : BitVec 32 := Scalar.addi c0_i32_91 v146
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_92 : BitVec 32 := 4#32
  let v148 : BitVec 32 := Scalar.muli v5 c4_i32_92
  let v149 : BitVec 32 := Scalar.addi v147 v148
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v150 : BitVec 32 := Scalar.muli v8 c1_i32_93
  let v151 : BitVec 32 := Scalar.addi v149 v150
  v151.toNat
def k0_dev9 (d0 : Dev nD) : Nat :=
  let c0_i32_103 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_102 : BitVec 32 := 8#32
  let v166 : BitVec 32 := Scalar.muli v9 c8_i32_102
  let v167 : BitVec 32 := Scalar.addi c0_i32_103 v166
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_104 : BitVec 32 := 4#32
  let v168 : BitVec 32 := Scalar.muli v5 c4_i32_104
  let v169 : BitVec 32 := Scalar.addi v167 v168
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_105 : BitVec 32 := 1#32
  let v170 : BitVec 32 := Scalar.muli v8 c1_i32_105
  let v171 : BitVec 32 := Scalar.addi v169 v170
  v171.toNat
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S256x512 : Shape := ⟨2, ![256, 512]⟩
abbrev S512x8192 : Shape := ⟨2, ![512, 8192]⟩
abbrev S256x8192 : Shape := ⟨2, ![256, 8192]⟩
abbrev S_ : Shape := ⟨0, ![]⟩
abbrev S256 : Shape := ⟨1, ![256]⟩
abbrev S256x1 : Shape := ⟨2, ![256, 1]⟩

abbrev nBuf : Space → Nat
  | .hbm => 14
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x8192, .f32⟩
  | .hbm, ⟨2, _⟩ => ⟨S256x8192, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S256x8192, .f32⟩
  | .hbm, ⟨7, _⟩ => ⟨S256x8192, .f32⟩
  | .hbm, ⟨8, _⟩ => ⟨S256x8192, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S256x8192, .f32⟩
  | .hbm, ⟨13, _⟩ => ⟨S256x8192, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Schedule.lean ====
/-
The exchange of logits between the two devices of a pair, as a schedule of rounds.

Sixteen devices form a 2 × 2 × 4 mesh; device `c` has first coordinate `c / 8`. The two devices that differ in the
first coordinate only are a pair. Each computes 4096 of the 8192 columns of logits, in eight chunks of 512 columns, and
copies every chunk into the same columns of the other's result buffer. Before the first copy the two shake hands on
their barrier semaphores.

A device has seventeen semaphore cells here: its barrier, eight that count its outgoing copies, eight that count the
incoming ones. Each cell has one round with one duty.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.SparseCore.ProtocolKit

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.ProtocolKit (finFrom finUpTo)

variable {F : FTy → Type} [FloatOps F]

/-- The ghost state of the exchange: one token type, since every round has one duty. -/
abbrev UX : Type := URounds (GSem nD τ sig) Unit
/-- With the ghost state of the staging pipeline beside it. -/
abbrev UU : Type := UR sig nD τ × UX

local notation "𝕄" => MT nD τ sig Unit (Elt F) ℕ UU ℕ

/-- The pipeline's part of the ghost state. -/
abbrev EP : Emb (UR sig nD τ) (MT nD τ sig Unit (Elt F) ℕ UU ℕ) := embL
/-- The exchange's part of the ghost state. -/
abbrev ER : Emb UX (MT nD τ sig Unit (Elt F) ℕ UU ℕ) := embR

variable (m : (ℓ : Loc nD τ sig) → Buf (Elt F) ℓ) (ρ : Dev nD → PrngReg)

/-! ## Pairs -/

set_option backward.proofsInPublic true in
/-- The device that holds the other half of the columns. -/
def peer (c : Dev nD) : Dev nD := ⟨(c.val + 8) % 16, Nat.mod_lt _ (by decide)⟩

/-- Peers are each other's peers. -/
theorem peer_peer (c : Dev nD) : peer (peer c) = c := by revert c; decide
/-- A peer is in the other half of the mesh. -/
theorem peer_div (c : Dev nD) : (peer c).val / 8 = 1 - c.val / 8 := by revert c; decide
/-- A peer has the same second and third coordinates. -/
theorem peer_mod (c : Dev nD) : (peer c).val % 8 = c.val % 8 := by revert c; decide
/-- There are two halves, 0 and 1. -/
theorem div_le_one (c : Dev nD) : c.val / 8 ≤ 1 := by revert c; decide

/-- The pairing as a permutation of the devices. -/
def pairing : Dev nD ≃ Dev nD := ⟨peer, peer, peer_peer, peer_peer⟩

/-- The address arithmetic of the signal and of the eight copies all lead to the peer. -/
theorem addr_eq (c : Dev nD) : (4 * ((c.val / 4) % 2) + (c.val % 4) + 8) - 8 * (c.val / 8) = (peer c).val := by revert c; decide

set_option backward.proofsInPublic true in
/-- The device of `c`'s pair that computes the columns of half `h`. -/
def half (c : Dev nD) (h : ℕ) : Dev nD := ⟨h % 2 * 8 + c.val % 8, by have := Nat.mod_lt h (show 0 < 2 by decide); have := Nat.mod_lt c.val (show 0 < 8 by decide); show _ < 16; omega⟩

/-- A device computes the columns of its own half. -/
theorem half_own (c : Dev nD) : half c (c.val / 8) = c := by revert c; decide
/-- Peers agree on who computes which half. -/
theorem half_peer (c : Dev nD) (h : ℕ) : half (peer c) h = half c h := Fin.ext (by show h % 2 * 8 + (peer c).val % 8 = h % 2 * 8 + c.val % 8; rw [peer_mod])

/-! ## Buffers and chunks -/

/-- The staging buffer of `x`. -/
abbrev xM : Memref sig .tc .vmem S256x512 .f32 := Memref.whole cc0_stg0_0
/-- The staging buffer of the device's half of `W`. -/
abbrev wM : Memref sig .tc .vmem S512x4096 .f32 := Memref.whole cc0_stg1_0
/-- The result buffer. -/
abbrev oM : Memref sig .tc .vmem S256x8192 .f32 := Memref.whole cc0_stg2_0

/-- A device's result buffer. -/
abbrev oLoc (c : Dev nD) : Loc nD τ sig := (c : Thread nD τ).loc cc0_stg2_0

/-- Where chunk `k` of device `c` starts. -/
abbrev chunkOff (c : Dev nD) (k : Fin 8) : Fin 2 → ℕ := ![0, 4096 * (c.val / 8) + 512 * k.val]

/-- A chunk lies inside the result buffer. -/
theorem chunk_inb (c : Dev nD) (k : Fin 8) : ∀ a, chunkOff c k a + S256x512.size a ≤ S256x8192.size a := by
  have h1 := div_le_one c; have h2 := k.isLt
  intro a; match a with
  | 0 => exact le_refl _
  | 1 => show 4096 * (c.val / 8) + 512 * k.val + 512 ≤ 8192; omega

/-- Chunk `k` of device `c`: 256 rows by 512 columns of the result buffer. -/
abbrev chunkR (c : Dev nD) (k : Fin 8) : Rect S256x8192 := Rect.unit (s := S256x8192) (chunkOff c k) S256x512.size (chunk_inb c k)
/-- The elements of chunk `k` of device `c`. -/
abbrev chunkS (c : Dev nD) (k : Fin 8) : Finset (S256x8192.Idx) := (chunkR c k).set

/-- An element is in a chunk when its column is. -/
theorem mem_chunkS (c : Dev nD) (k : Fin 8) (i : S256x8192.Idx) :
    i ∈ chunkS c k ↔ 4096 * (c.val / 8) + 512 * k.val ≤ (i 1).val ∧ (i 1).val < 4096 * (c.val / 8) + 512 * k.val + 512 := by
  rw [Rect.mem_set_unit]
  constructor
  · intro h; exact h 1
  · intro h a; match a with
    | 0 => exact ⟨Nat.zero_le _, by have := (i 0).isLt; show (i 0).val < 0 + 256; rw [Nat.zero_add]; exact this⟩
    | 1 => exact h

/-- The sixteen chunks of a pair: a device's own (`false`) and its peer's (`true`). -/
def pairS (c : Dev nD) (bk : Bool × Fin 8) : Finset (S256x8192.Idx) := chunkS (if bk.1 then peer c else c) bk.2

/-- No two of the sixteen chunks share an element. -/
theorem pairS_disjoint (c : Dev nD) (b b' : Bool × Fin 8) (h : b ≠ b') : Disjoint (pairS c b) (pairS c b') := by
  rw [Finset.disjoint_left]
  rintro i hi hi'
  unfold pairS at hi hi'
  rw [mem_chunkS] at hi hi'
  have h1 := div_le_one c; have hp := peer_div c
  obtain ⟨b, k⟩ := b; obtain ⟨b', k'⟩ := b'
  have hk := k.isLt; have hk' := k'.isLt
  have hne : ¬(b = b' ∧ k.val = k'.val) := fun ⟨e1, e2⟩ => h (by rw [e1, Fin.ext e2])
  cases b <;> cases b' <;> simp only [if_true, if_false, Bool.false_eq_true, true_and, false_and, not_false_eq_true, reduceCtorEq] at hi hi' hne <;> omega

/-- The sixteen chunks together are the whole result buffer. -/
theorem pairS_cover (c : Dev nD) : Finset.univ.biUnion (pairS c) = Finset.univ := by
  ext i
  simp only [Finset.mem_biUnion, Finset.mem_univ, true_and, iff_true]
  have hi : (i 1).val < 8192 := (i 1).isLt
  have h1 := div_le_one c; have hp := peer_div c
  have hk : ((i 1).val % 4096) / 512 < 8 := by omega
  by_cases h : (i 1).val / 4096 = c.val / 8
  · refine ⟨(false, ⟨_, hk⟩), ?_⟩
    unfold pairS; rw [mem_chunkS]; simp only [Bool.false_eq_true, if_false]; omega
  · refine ⟨(true, ⟨_, hk⟩), ?_⟩
    unfold pairS; rw [mem_chunkS]; simp only [if_true]; omega

/-- A device's result buffer is its own eight chunks and its peer's eight. -/
theorem out_split (c : Dev nD) (f : Buf (Elt F) (oLoc c)) :
    (oLoc c ↦{fullShare} f : sProp 𝕄)
      = iprop((bigSep Finset.univ fun k => oLoc c ↦[chunkS c k]{fullShare} f) ∗ bigSep Finset.univ fun k => oLoc c ↦[chunkS (peer c) k]{fullShare} f) := by
  rw [Ring.pointsTo_blocks (ℓ := oLoc c) (pairS c) (fun b b' h => pairS_disjoint c b b' h) (pairS_cover c) f, bigSep_univ_prod,
    show (Finset.univ : Finset Bool) = {false, true} by decide, BI.bigSep_insert (by decide), BI.bigSep_singleton]
  rfl

/-! ## Semaphores and cells -/

/-- The barrier semaphore. -/
abbrev barS : Sem sig := (SemArray.scalar (sig.barrier 0 rfl) : Sems sig S_).sem
/-- The semaphore that counts the outgoing copy of chunk `k`. -/
def sendS (k : Fin 8) : DmaSem sig := ⟨3 + k.val, by have := k.isLt; show _ < 19; omega⟩
/-- The semaphore that counts the incoming copy of chunk `k`. -/
def recvS (k : Fin 8) : DmaSem sig := ⟨11 + k.val, by have := k.isLt; show _ < 19; omega⟩

/-- The seventeen cells of a device: barrier, outgoing, incoming. -/
abbrev CIx : Type := Unit ⊕ (Fin 8 ⊕ Fin 8)
/-- The barrier. -/
abbrev cBar : CIx := .inl ()
/-- The outgoing copy of chunk `k`. -/
abbrev cSend (k : Fin 8) : CIx := .inr (.inl k)
/-- The incoming copy of chunk `k`. -/
abbrev cRecv (k : Fin 8) : CIx := .inr (.inr k)

/-- The semaphores of the sixteen copies. -/
def osem : Fin 8 ⊕ Fin 8 → SemLoc sig := Sum.elim (fun k => .dma (sendS k)) (fun k => .dma (recvS k))
/-- The semaphore of each cell. -/
def csem : CIx → SemLoc sig := Sum.elim (fun _ => .reg barS) osem

/-- The seventeen semaphores are different. -/
theorem csem_inj : Function.Injective csem := by decide

/-- Cell `j` of device `c`. -/
abbrev kcell (ck : Dev nD × CIx) : GSem nD τ sig := ((ck.1 : Thread nD τ), csem ck.2)
/-- A device's barrier. -/
abbrev barCell (c : Dev nD) : GSem nD τ sig := kcell (c, cBar)
/-- A device's outgoing copy of chunk `k`. -/
abbrev sendCell (c : Dev nD) (k : Fin 8) : GSem nD τ sig := kcell (c, cSend k)
/-- A device's incoming copy of chunk `k`. -/
abbrev recvCell (c : Dev nD) (k : Fin 8) : GSem nD τ sig := kcell (c, cRecv k)

/-- Different devices or different cells are different semaphores. -/
theorem kcell_injective : Function.Injective (kcell : Dev nD × CIx → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- Which of the seventeen cells a semaphore is, if any. -/
def which : SemLoc sig → Option CIx := Function.partialInv csem
/-- It finds the cell of each of the seventeen. -/
theorem which_csem (j : CIx) : which (csem j) = some j := Function.partialInv_left csem_inj j

/-- The amount one chunk's copy counts. -/
abbrev N : ℕ := (cc0_stg2_0 : Ref sig .tc).dmaCredit S256x512 .f32
/-- A copy counts something. -/
theorem N_pos : 0 < N := (oM.slice (chunkR 0 0) (fun _ => rfl) : Memref sig .tc .vmem S256x512 .f32).view.dmaCredit_pos (by decide)

/-! ## Contents -/

/-- The memory at launch: arbitrary contents, every counter zero, arbitrary generator registers. -/
def s₀ : MemSt nD τ sig (Elt F) := ⟨m, fun _ => 0, ρ⟩

/-- What a device's staging buffer of `x` holds once filled. -/
def xstg (c : Dev nD) : (cc0_stg0_0 : Ref sig .tc).ty.Contents (Elt F) :=
  (win0_0.blk (0 : Fin 1)).view.read (Elt F) ((s₀ m ρ).mem ((c : Thread nD τ).loc main_arg0))
/-- What a device's staging buffer of its half of `W` holds once filled. -/
def wstg (c : Dev nD) : (cc0_stg1_0 : Ref sig .tc).ty.Contents (Elt F) :=
  (win0_1.blk (0 : Fin 1)).view.read (Elt F) ((s₀ m ρ).mem ((c : Thread nD τ).loc main_arg1))

/-- The columns that chunk `k` uses lie inside the device's half of `W`. -/
theorem wchunk_inb (k : Fin 8) : ∀ a, (![0, 512 * k.val] : Fin 2 → ℕ) a + S512x512.size a ≤ S512x4096.size a := by
  have h2 := k.isLt
  intro a; match a with
  | 0 => exact le_refl _
  | 1 => show 512 * k.val + 512 ≤ 4096; omega

/-- The columns of a device's half of `W` that chunk `k` uses. -/
abbrev wchunkR (k : Fin 8) : Rect S512x4096 := Rect.unit (s := S512x4096) ![0, 512 * k.val] S512x512.size (wchunk_inb k)
/-- Those columns' contents. -/
def wchunk (c : Dev nD) (k : Fin 8) : Vec F S512x512 .f32 := (wM : Memref sig .tc .vmem S512x4096 .f32).view.readAt (Elt F) (wchunkR k).toLoadRect (wstg m ρ c)

/-- Chunk `k` of the logits, as device `c` computes it. -/
def chunkVal (c : Dev nD) (k : Fin 8) : FVec F S256x512 .f32 := k0_pay2 (xstg m ρ c) (wchunk m ρ c k)

/-- An element's place inside its chunk. -/
def inChunk (i : S256x8192.Idx) : S256x512.Idx
  | 0 => i 0
  | 1 => ⟨(i 1).val % 512, Nat.mod_lt _ (by decide)⟩

/-- All the logits of a pair: each half as the device that owns it computes it. -/
def logits (c : Dev nD) : (cc0_stg2_0 : Ref sig .tc).ty.Contents (Elt F) := fun i =>
  chunkVal m ρ (half c ((i 1).val / 4096)) ⟨(i 1).val % 4096 / 512, by omega⟩ (inChunk i)

/-- Peers compute the same logits between them. -/
theorem logits_peer (c : Dev nD) : logits m ρ (peer c) = logits m ρ c := by
  funext i; unfold logits; rw [half_peer]

/-- A chunk's rows are the buffer's. -/
theorem chunk_emb_0 (c : Dev nD) (k : Fin 8) (j : S256x512.Idx) : ((chunkR c k).emb j 0).val = (j 0).val := by
  show 0 + 1 * (j 0).val = (j 0).val; omega
/-- A chunk's columns start where the chunk does. -/
theorem chunk_emb_1 (c : Dev nD) (k : Fin 8) (j : S256x512.Idx) : ((chunkR c k).emb j 1).val = 4096 * (c.val / 8) + 512 * k.val + (j 1).val := by
  show 4096 * (c.val / 8) + 512 * k.val + 1 * (j 1).val = _; omega

/-- On chunk `k` of device `c` the logits are what the device computes there. -/
theorem logits_chunk (c : Dev nD) (k : Fin 8) (j : S256x512.Idx) : logits m ρ c ((chunkR c k).emb j) = chunkVal m ρ c k j := by
  have e0 := chunk_emb_0 c k j; have e1 := chunk_emb_1 c k j
  have hj : (j 1).val < 512 := (j 1).isLt
  have hk := k.isLt
  have h1 : ((chunkR c k).emb j 1).val / 4096 = c.val / 8 := by rw [e1]; omega
  have h2 : (⟨((chunkR c k).emb j 1).val % 4096 / 512, by omega⟩ : Fin 8) = k := Fin.ext (by show _ % 4096 / 512 = _; rw [e1]; omega)
  have h3 : inChunk ((chunkR c k).emb j) = j := by
    funext a; match a with
    | 0 => exact Fin.ext e0
    | 1 => exact Fin.ext (by show ((chunkR c k).emb j 1).val % 512 = _; rw [e1]; omega)
  unfold logits
  rw [h1, h2, h3, half_own]

/-- Chunk `k` of device `d`'s columns in device `c`'s result buffer, at contents `f`. -/
def chunkPts (c d : Dev nD) (k : Fin 8) (f : Buf (Elt F) (oLoc c)) : sProp 𝕄 := oLoc c ↦[chunkS d k]{fullShare} f

/-- A chunk of a buffer can be kept in an invariant. -/
instance chunkPts_storable (c d : Dev nD) (k : Fin 8) (f) : BI.Storable (upEmb : UEmb _ 𝕄) (chunkPts (F := F) c d k f) := by unfold chunkPts; infer_instance

/-! ## The schedule -/

/-- What the peer's signal hands `c`: the peer's room for `c`'s eight chunks. -/
def barPay (c : Dev nD) : sProp 𝕄 := bigSep Finset.univ fun k : Fin 8 => iprop(∃ f, chunkPts (peer c) c k f)
/-- What the end of an outgoing copy hands back: the chunk copied from. -/
def sendPay (c : Dev nD) (k : Fin 8) : sProp 𝕄 := chunkPts c c k (logits m ρ c)
/-- What the end of an incoming copy hands over: the peer's chunk, arrived. -/
def recvPay (c : Dev nD) (k : Fin 8) : sProp 𝕄 := chunkPts c (peer c) k (logits m ρ c)

/-- The payload of each of a device's cells. -/
def payOf (c : Dev nD) : CIx → sProp 𝕄 := Sum.elim (fun _ => barPay c) (Sum.elim (sendPay m ρ c) (recvPay m ρ c))

/-- So can every payload. -/
instance payOf_storable (c : Dev nD) (j : CIx) : BI.Storable (upEmb : UEmb _ 𝕄) (payOf (F := F) m ρ c j) := by
  rcases j with u | k | k
  · show BI.Storable _ (barPay c); unfold barPay; infer_instance
  · show BI.Storable _ (sendPay m ρ c k); unfold sendPay; infer_instance
  · show BI.Storable _ (recvPay m ρ c k); unfold recvPay; infer_instance

/-- The amount of each of a device's cells: one signal, or one chunk. -/
def amtOf : CIx → ℕ := Sum.elim (fun _ => 1) (fun _ => N)
/-- No amount is zero. -/
theorem amtOf_pos (j : CIx) : 0 < amtOf j := by
  rcases j with u | k
  · exact Nat.one_pos
  · exact N_pos

/-- One round, round 0, of one duty per cell. -/
def xRd : Rounds.Schedule (GSem nD τ sig) Unit 𝕄 where
  duties g r := if r = 0 ∧ g.1.2 = .tc ∧ (which g.2).isSome then {()} else ∅
  unitless _ := False
  amount g _ _ := (which g.2).elim 1 amtOf
  payload g _ _ := (which g.2).elim iprop(emp) (payOf m ρ g.1.1)
  amount_pos g _ _ _ := by
    cases which g.2 with
    | none => exact Nat.one_pos
    | some j => exact amtOf_pos j

/-- So can the schedule's payloads. -/
instance xRd_payload_storable (g : GSem nD τ sig) (r : ℕ) (d : Unit) :
    BI.Storable (upEmb : UEmb _ 𝕄) ((xRd (F := F) m ρ).payload g r d) := by
  show BI.Storable upEmb ((which g.2).elim iprop(emp) (payOf m ρ g.1.1))
  cases which g.2 with
  | none => show BI.Storable upEmb iprop(emp); infer_instance
  | some j => exact payOf_storable m ρ g.1.1 j

/-- A cell has one duty in round 0. -/
theorem duties_cell (c : Dev nD) (j : CIx) : (xRd (F := F) m ρ).duties (kcell (c, j)) 0 = {()} := by
  dsimp only [xRd]; rw [which_csem]; exact if_pos ⟨rfl, rfl, rfl⟩
/-- That duty is there. -/
theorem mem_duties (c : Dev nD) (j : CIx) : () ∈ (xRd (F := F) m ρ).duties (kcell (c, j)) 0 := by
  rw [duties_cell]; exact Finset.mem_singleton_self _
/-- No cell has a duty later. -/
theorem duties_later (g : GSem nD τ sig) : ∀ r, 1 ≤ r → (xRd (F := F) m ρ).duties g r = ∅ :=
  fun r hr => by dsimp only [xRd]; rw [if_neg fun h => by omega]
/-- The duty's amount. -/
theorem amount_cell (c : Dev nD) (j : CIx) : (xRd (F := F) m ρ).amount (kcell (c, j)) 0 () = amtOf j := by
  dsimp only [xRd]; rw [which_csem]; rfl
/-- The round expects the duty's amount. -/
theorem expect_cell (c : Dev nD) (j : CIx) : (xRd (F := F) m ρ).expect (kcell (c, j)) 0 = amtOf j := by
  unfold Schedule.expect Schedule.amountOf; rw [duties_cell, Finset.sum_singleton, amount_cell]
/-- The duty's payload. -/
theorem payload_cell (c : Dev nD) (j : CIx) : (xRd (F := F) m ρ).payload (kcell (c, j)) 0 () = payOf m ρ c j := by
  dsimp only [xRd]; rw [which_csem]; rfl
/-- All a cell's round hands over is its one payload. -/
theorem rest_cell (c : Dev nD) (j : CIx) :
    bigSep ((xRd (F := F) m ρ).duties (kcell (c, j)) 0 \ ∅) (fun d => (xRd (F := F) m ρ).payload (kcell (c, j)) 0 d) = payOf m ρ c j := by
  rw [Finset.sdiff_empty, duties_cell, BI.bigSep_singleton, payload_cell]

/-! ## What each device owes at launch, and the levels -/

/-- What a device still owes its peer's incoming cells once its first `n` copies are started. -/
def owed (c : Dev nD) (n : ℕ) : CellTallies nD τ sig Unit := ∑ k ∈ finFrom 8 n, tallyAt (recvCell (peer c) k) () N
/-- At launch: eight chunks and one signal. -/
def O₀ (c : Dev nD) : CellTallies nD τ sig Unit := owed c 0 + tallyAt (barCell (peer c)) () 1

/-- Before copy `k` a device owes what it does after it, and chunk `k`. -/
theorem owed_step (c : Dev nD) (k : Fin 8) : owed c k.val = owed c (k.val + 1) + tallyAt (recvCell (peer c) k) () N :=
  SparseCore.ProtocolKit.sum_finFrom_succ k.isLt _
/-- After the last copy it owes nothing. -/
theorem owed_end (c : Dev nD) : owed c 8 = 0 := SparseCore.ProtocolKit.sum_finFrom_self _

/-- The one kind of credit, on every semaphore. -/
def L (g : GSem nD τ sig) : Finset Unit := if g.1.2 = .tc then {()} else ∅
/-- No credit elsewhere. -/
theorem L_of_ne (g : GSem nD τ sig) (h : g.1.2 ≠ .tc) : L g = ∅ := if_neg h
/-- The one kind of credit, on each semaphore of a device. -/
theorem L_tc (c : Dev nD) (sm : SemLoc sig) : L ((c : Thread nD τ), sm) = {()} := if_pos rfl

/-- The level of a cell: outgoing copies lowest, the barrier above them, incoming copies highest. -/
def lvOf : CIx → ℕ := Sum.elim (fun _ => 1) (Sum.elim (fun _ => 0) (fun _ => 2))
/-- The level of a semaphore: its cell's, or the lowest. -/
def lv (g : GSem nD τ sig) (_ : Unit) : ℕ := (which g.2).elim 0 lvOf
/-- A cell's semaphore is at the cell's level. -/
theorem lv_cell (c : Dev nD) (j : CIx) (u : Unit) : lv (kcell (c, j)) u = lvOf j := by unfold lv; rw [which_csem]; rfl

/-- What a device owes is to its peer's incoming copies. -/
theorem owed_pos {c : Dev nD} {n : ℕ} {g : GSem nD τ sig} {u : Unit} (h : 0 < owed c n g u) : ∃ k, g = recvCell (peer c) k := by
  unfold owed at h
  rw [Finset.sum_apply, Finsupp.finset_sum_apply] at h
  by_contra hn
  refine Nat.lt_irrefl 0 (lt_of_lt_of_eq h (Finset.sum_eq_zero fun k _ => ?_))
  rw [tallyAt_apply, if_neg fun h' => hn ⟨k, h'.1⟩]

/-- At launch a device owes its peer's incoming copies and its barrier. -/
theorem O₀_pos {c : Dev nD} {g : GSem nD τ sig} {u : Unit} (h : 0 < O₀ c g u) : (∃ k, g = recvCell (peer c) k) ∨ g = barCell (peer c) := by
  unfold O₀ at h
  rw [Pi.add_apply, Finsupp.add_apply] at h
  rcases Nat.eq_zero_or_pos (owed c 0 g u) with h0 | h0
  · right
    rw [h0, Nat.zero_add, tallyAt_apply] at h
    by_contra hn
    rw [if_neg fun h' => hn h'.1] at h
    exact Nat.lt_irrefl 0 h
  · exact .inl (owed_pos h0)

/-- Before the handshake a device may wait for its staging buffers. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl <;> exact Finset.mem_singleton_self _)
      (fun p hp => by rw [Finset.mem_singleton.mp hp]; exact hq.le)
      (fun g u hg => by
        rcases O₀_pos hg with ⟨k, rfl⟩ | rfl
        · rw [lv_cell]; exact Nat.zero_lt_two
        · rw [lv_cell]; exact Nat.zero_lt_one)
  · rw [MayWait_zero]; iintro -; iempintro

/-- At its barrier a device owes incoming copies of its peer only, which lie above. -/
theorem mayWait_bar (c : Dev nD) : (levAts L lv : sProp 𝕄) ⊢ MayWait (c : Thread nD τ) (.reg barS) () (owed c 0) :=
  MayOwe.of_cut (L := L) (lev := lv) 1 (fun p hp => by rw [Finset.mem_singleton.mp hp, L_tc]; exact Finset.mem_singleton_self _)
    (fun g u hg => by obtain ⟨k, rfl⟩ := owed_pos hg; exact Finset.mem_singleton_self _)
    (fun p hp => by rw [Finset.mem_singleton.mp hp]; exact (lv_cell c cBar ()).le)
    (fun g u hg => by obtain ⟨k, rfl⟩ := owed_pos hg; rw [lv_cell]; exact Nat.one_lt_two)

end Cert.Exchange

end
-- ==== Proof.Body.lean ====
/-
What one device does: the handshake, eight chunks computed and sent, eight copies awaited, the softmax.
-/
module

public import proofs.«01_k».proof.Proof.Schedule

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (ρ : Dev nD → PrngReg)

/-- No loop needs a bound. -/
abbrev 𝒱₀ : Variants := Variants.none

/-! ## What a device holds -/

/-- Every cell's invariant, under the names the launch gave, and that every cell has reached round 0. -/
def records (K : Dev nD × CIx → ℕ) : sProp 𝕄 :=
  iprop((bigSep Finset.univ fun ck : Dev nD × CIx => cellInv ER (xRd m ρ) (K ck) (kcell ck))
    ∗ bigSep Finset.univ fun ck : Dev nD × CIx => reached ER (kcell ck) 0)

/-- The records can be used any number of times. -/
instance records_persistent (K : Dev nD × CIx → ℕ) : BI.Persistent (records m ρ K) := by unfold records; infer_instance

/-- One cell's invariant, out of the records. -/
theorem inv_at (K : Dev nD × CIx → ℕ) (ck : Dev nD × CIx) : (records m ρ K : sProp 𝕄) ⊢ cellInv ER (xRd m ρ) (K ck) (kcell ck) := by
  have h : (bigSep Finset.univ fun ck : Dev nD × CIx => cellInv ER (xRd m ρ) (K ck) (kcell ck) : sProp 𝕄) ⊢ cellInv ER (xRd m ρ) (K ck) (kcell ck) :=
    bigSep_elim (Finset.mem_univ ck)
  unfold records
  iintro ⟨H, -⟩
  iapply h; iexact H
/-- One cell has reached round 0, out of the records. -/
theorem reached_at (K : Dev nD × CIx → ℕ) (ck : Dev nD × CIx) : (records m ρ K : sProp 𝕄) ⊢ reached ER (kcell ck) 0 := by
  have h : (bigSep Finset.univ fun ck : Dev nD × CIx => reached ER (kcell ck) 0 : sProp 𝕄) ⊢ reached ER (kcell ck) 0 :=
    bigSep_elim (Finset.mem_univ ck)
  unfold records
  iintro ⟨-, H⟩
  iapply h; iexact H

/-- What a device owes, its waits so far left open. -/
def owesE (c : Dev nD) (O : CellTallies nD τ sig Unit) : sProp 𝕄 := iprop(∃ W, owes (c : Thread nD τ) O W)

/-- The filled staging buffer of `x`. -/
def xPts (c : Dev nD) : sProp 𝕄 := (xM : Memref sig .tc .vmem S256x512 .f32).view.loc (c : Thread nD τ) ↦{fullShare} xstg m ρ c
/-- The filled staging buffer of the device's half of `W`. -/
def wPts (c : Dev nD) : sProp 𝕄 := (wM : Memref sig .tc .vmem S512x4096 .f32).view.loc (c : Thread nD τ) ↦{fullShare} wstg m ρ c

/-- What chunk `k` needs: room for it here and at the peer, and the right to pay both ends of its copy. -/
def todo (c : Dev nD) (k : Fin 8) : sProp 𝕄 :=
  iprop((∃ f, chunkPts c c k f) ∗ (∃ f, chunkPts (peer c) c k f) ∗ dutyTok ER (sendCell c k) 0 () ∗ dutyTok ER (recvCell (peer c) k) 0 ())

/-- Before chunk `n`: the chunks from `n` on are to do, the copies of those before are under way. -/
def sending (c : Dev nD) (n : ℕ) : sProp 𝕄 :=
  iprop(bigSep (finFrom 8 n) (todo (F := F) c) ∗ bigSep (finUpTo 8 n) (fun k => cred (tallyAt (sendCell c k) () N)) ∗ owesE c (owed c n))

/-- What awaiting chunk `k`'s two copies needs. -/
def pend (c : Dev nD) (k : Fin 8) : sProp 𝕄 :=
  iprop(cred (tallyAt (sendCell c k) () N) ∗ atPos ER (sendCell c k) 0 ∅ 0 ∗ cred (tallyAt (recvCell c k) () N) ∗ atPos ER (recvCell c k) 0 ∅ 0)
/-- What awaiting chunk `k`'s two copies yields. -/
def got (c : Dev nD) (k : Fin 8) : sProp 𝕄 :=
  iprop(sendPay m ρ c k ∗ recvPay m ρ c k ∗ semVal (sendCell c k) 0 ∗ semVal (recvCell c k) 0)

/-- Before the waits of chunk `n`. -/
def awaiting (c : Dev nD) (n : ℕ) : sProp 𝕄 :=
  iprop(bigSep (finFrom 8 n) (pend (F := F) c) ∗ bigSep (finUpTo 8 n) (got m ρ c) ∗ owesE c 0)

/-! ## One chunk -/

section Steps

variable (K : Dev nD × CIx → ℕ)

/-- Offsets of zero. -/
theorem hz : (![0, 0] : Fin 2 → Nat) = fun _ => 0 := funext fun a => by fin_cases a <;> rfl

/-- The transfer of chunk `k` to the peer: the chunk's logits here and room for them there become the two payloads. -/
theorem wp_send_chunk (c n : Dev nD) (k : Fin 8) (hn : n = peer c) {off : Fin 2 → ℕ} {inb inb' : ∀ a, off a + S256x512.size a ≤ S256x8192.size a} (hoff : off = chunkOff c k)
    {hu hu' : ∀ a, (Rect.unit (s := S256x8192) off S256x512.size inb).stride a = 1}
    {sS sR : DmaSem sig} (hS : sS = sendS k) (hR : sR = recvS k)
    {hsc : (oM.slice (Rect.unit (s := S256x8192) off S256x512.size inb') hu' : Memref sig (Dev.tc n : Thread nD τ).2.kind .vmem S256x512 .f32).view.ref.isScScratch = false}
    {hsrc : (oM.slice (Rect.unit (s := S256x8192) off S256x512.size inb) hu : Memref sig .tc .vmem S256x512 .f32).view.WordExact}
    {hdst : (oM.slice (Rect.unit (s := S256x8192) off S256x512.size inb') hu' : Memref sig .tc .vmem S256x512 .f32).view.WordExact}
    {hsem : DmaTarget.Typed .vmem (.dma sR) (.remote (Dev.tc n : Thread nD τ) (oM.slice (Rect.unit (s := S256x8192) off S256x512.size inb') hu' : Memref sig .tc .vmem S256x512 .f32) (.dma sS) hsc)}
    {α : Type} {Q : α → sProp 𝕄} {kt : PUnit → Prog (TpuEff nD τ sig (Elt F) Λ₀ .tc) α} (fn : Buf (Elt F) (oLoc (peer c))) (W : Waits sig Unit) (O : CellTallies nD τ sig Unit) :
    iprop(records m ρ K ∗ chunkPts c c k (logits m ρ c) ∗ chunkPts (peer c) c k fn
        ∗ owes (c : Thread nD τ) (O + tallyAt (recvCell (peer c) k) () N) W ∗ dutyTok ER (sendCell c k) 0 () ∗ dutyTok ER (recvCell (peer c) k) 0 ())
      ⊢ iprop(((cred (tallyAt (sendCell c k) () N) ∗ owes (c : Thread nD τ) O W) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (oM.slice (Rect.unit (s := S256x8192) off S256x512.size inb) hu) (.remote (Dev.tc n : Thread nD τ) (oM.slice (Rect.unit (s := S256x8192) off S256x512.size inb') hu') (.dma sS) hsc) (.dma sR) hsrc hdst hsem) kt) Q) := by
  subst hn hoff hS hR
  have e1 : chunkPts c c k (logits m ρ c) = ((oM.slice (chunkR c k) hu : Memref sig .tc .vmem S256x512 .f32).view.loc (c : Thread nD τ)
      ↦[(oM.slice (chunkR c k) hu : Memref sig .tc .vmem S256x512 .f32).view.set]{fullShare} logits m ρ c : sProp 𝕄) := by
    unfold chunkPts; rw [show (oM.slice (chunkR c k) hu : Memref sig .tc .vmem S256x512 .f32).view.set = chunkS c k from View.set_slice_whole _ _]
  have e2 (f) : chunkPts (peer c) c k f = ((oM.slice (chunkR c k) hu' : Memref sig .tc .vmem S256x512 .f32).view.loc (peer c : Thread nD τ)
      ↦[(oM.slice (chunkR c k) hu' : Memref sig .tc .vmem S256x512 .f32).view.set]{fullShare} f : sProp 𝕄) := by
    unfold chunkPts; rw [show (oM.slice (chunkR c k) hu' : Memref sig .tc .vmem S256x512 .f32).view.set = chunkS c k from View.set_slice_whole _ _]
  rw [e1, e2]
  iintro ⟨#HR, Hs, Hd, HO, HtS, HtR⟩
  iapply (Rounds.wp_send_pointsTo 𝒱₀ ER (xRd m ρ) (c : Thread nD τ) none (κ₁ := K (c, cSend k)) (κ₂ := K (peer c, cRecv k))
    (r₁ := 0) (r₂ := 0) (d₁ := ()) (d₂ := ()) (fd := fn) (fs := logits m ρ c)
    (mem_duties m ρ c (cSend k)) (mem_duties m ρ (peer c) (cRecv k))
    () () N rfl (amount_cell m ρ c (cSend k)) (amount_cell m ρ (peer c) (cRecv k)) O rfl (W := W)
    (by rw [payload_cell]; exact Entails.of_eq e1.symm)
    (by
      rw [payload_cell]
      show _ ⊢ chunkPts (peer c) (peer (peer c)) k (logits m ρ (peer c))
      rw [peer_peer, logits_peer, e2]
      refine Entails.of_eq (pointsTo_congr fun i hi => ?_)
      obtain ⟨j, -, rfl⟩ := Finset.mem_map.mp hi
      rw [View.write_emb_of_mem _ _ (Finset.mem_univ _)]
      rfl)) $$ [Hs Hd HO HtS HtR]
  isplitr; · iapply (inv_at m ρ K (c, cSend k)); iexact HR
  isplitr; · iapply (inv_at m ρ K (peer c, cRecv k)); iexact HR
  isplitl [Hs]; · iexact Hs
  isplitl [Hd]; · iexact Hd
  isplitl [HO]; · iexact HO
  isplitl [HtS]; · iexact HtS
  isplitr; · iapply (reached_at m ρ K (c, cSend k)); iexact HR
  isplitl [HtR]; · iexact HtR
  iapply (reached_at m ρ K (peer c, cRecv k)); iexact HR

/-- One chunk: `x` and the chunk's columns of `W` are loaded, their product is stored, and its copy to the peer starts. -/
theorem wp_chunk (c n : Dev nD) (k : Fin 8) (hn : n = peer c)
    {off₁ off₂ : Fin 2 → ℕ} (hoff₁ : off₁ = chunkOff c k) (hoff₂ : off₂ = chunkOff c k)
    {pay : Vec F S256x512 .f32 → Vec F S512x512 .f32 → FVec F S256x512 .f32} (hpay : ∀ a b, pay a b = k0_pay2 a b)
    {sS sR : DmaSem sig} (hS : sS = sendS k) (hR : sR = recvS k)
    {inbx : ∀ a, (![0, 0] : Fin 2 → ℕ) a + S256x512.size a ≤ S256x512.size a} {inbw : ∀ a, (![0, 512 * k.val] : Fin 2 → ℕ) a + S512x512.size a ≤ S512x4096.size a}
    {inb₁ inb₁' : ∀ a, off₁ a + S256x512.size a ≤ S256x8192.size a} {inb₂ inb₂' : ∀ a, off₂ a + S256x512.size a ≤ S256x8192.size a}
    {hu hu' : ∀ a, (Rect.unit (s := S256x8192) off₂ S256x512.size inb₂).stride a = 1}
    {hlx hlw hlo hx hm}
    {hsc : (oM.slice (Rect.unit (s := S256x8192) off₂ S256x512.size inb₂') hu' : Memref sig (Dev.tc n : Thread nD τ).2.kind .vmem S256x512 .f32).view.ref.isScScratch = false}
    {hsrc : (oM.slice (Rect.unit (s := S256x8192) off₂ S256x512.size inb₂) hu : Memref sig .tc .vmem S256x512 .f32).view.WordExact}
    {hdst : (oM.slice (Rect.unit (s := S256x8192) off₂ S256x512.size inb₂') hu' : Memref sig .tc .vmem S256x512 .f32).view.WordExact}
    {hsem : DmaTarget.Typed .vmem (.dma sR) (.remote (Dev.tc n : Thread nD τ) (oM.slice (Rect.unit (s := S256x8192) off₂ S256x512.size inb₂') hu' : Memref sig .tc .vmem S256x512 .f32) (.dma sS) hsc)}
    {α : Type} {Q : α → sProp 𝕄} {kt : PUnit → Prog (TpuEff nD τ sig (Elt F) Λ₀ .tc) α} :
    iprop(records m ρ K ∗ xPts m ρ c ∗ wPts m ρ c ∗ sending c k.val)
      ⊢ iprop(((xPts m ρ c ∗ wPts m ρ c ∗ sending c (k.val + 1)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.load xM (Rect.unit (s := S256x512) ![0, 0] S256x512.size inbx).toLoadRect hlx) fun a =>
                .op (.load wM (Rect.unit (s := S512x4096) ![0, 512 * k.val] S512x512.size inbw).toLoadRect hlw) fun b =>
                .op (.load oM (Rect.unit (s := S256x8192) off₁ S256x512.size inb₁).toLoadRect hlo) fun _ =>
                .op (.store oM (Rect.unit (s := S256x8192) off₁ S256x512.size inb₁') (pay a b) Finset.univ hx hm) fun _ =>
                .op (.enqueueDma (oM.slice (Rect.unit (s := S256x8192) off₂ S256x512.size inb₂) hu) (.remote (Dev.tc n : Thread nD τ) (oM.slice (Rect.unit (s := S256x8192) off₂ S256x512.size inb₂') hu') (.dma sS) hsc) (.dma sR) hsrc hdst hsem) kt) Q) := by
  subst hoff₁
  have e1 (f) : chunkPts c c k f = ((oM.access (chunkR c k) : View sig .tc _ _ _).loc (c : Thread nD τ)
      ↦[(oM.access (chunkR c k) : View sig .tc _ _ _).set]{fullShare} f : sProp 𝕄) := by
    unfold chunkPts; rw [show (oM.access (chunkR c k) : View sig .tc _ _ _).set = chunkS c k from View.set_slice_whole _ _]
  have e2 (f) : ((oM.access (chunkR c k) : View sig .tc _ _ _).loc (c : Thread nD τ)
      ↦[(oM.access (chunkR c k) : View sig .tc _ _ _).set]{fullShare} ((oM.access (chunkR c k) : View sig .tc _ _ _).write (Elt F) f (chunkVal m ρ c k) Finset.univ) : sProp 𝕄)
      = chunkPts c c k (logits m ρ c) := by
    rw [e1]
    refine pointsTo_congr fun i hi => ?_
    obtain ⟨j, -, rfl⟩ := Finset.mem_map.mp hi
    rw [View.write_emb_of_mem _ _ (Finset.mem_univ _)]
    exact (logits_chunk m ρ c k j).symm
  unfold sending owesE
  rw [bigSep_finFrom_succ k.isLt, bigSep_finUpTo_succ k.isLt, owed_step]
  unfold xPts wPts
  iintro ⟨#HR, Hx, Hw, ⟨Htodo, Hrest⟩, Hsent, ⟨%W, HO⟩⟩ Hk
  unfold todo
  icases Htodo with ⟨⟨%f, Hc⟩, ⟨%fn, Hd⟩, HtS, HtR⟩
  iapply (wp_load 𝒱₀ (c : Thread nD τ) none Set.univ (m := xM) (Finset.subset_univ _)) $$ Hx; iintro Hx
  rw [show (xM : Memref sig .tc .vmem S256x512 .f32).view.readAt (Elt F) (Rect.unit (s := S256x512) ![0, 0] S256x512.size inbx).toLoadRect (xstg m ρ c) = xstg m ρ c from
    Memref.readAt_unit_zero (Elt F) cc0_stg0_0 hz _ _]
  iapply (wp_load 𝒱₀ (c : Thread nD τ) none Set.univ (m := wM) (Finset.subset_univ _)) $$ Hw; iintro Hw
  ihave Hc := (Entails.of_eq (e1 f)) $$ Hc
  iapply (wp_load_rect 𝒱₀ (c : Thread nD τ) none Set.univ (m := oM) (r := chunkR c k) (Finset.Subset.refl _)) $$ Hc; iintro Hc
  iapply (wp_store 𝒱₀ (c : Thread nD τ) none Set.univ (m := oM) (r := chunkR c k) (Mk := Finset.univ) (View.setOn_subset_set _ _)) $$ Hc; iintro Hc
  rw [hpay, show (wM : Memref sig .tc .vmem S512x4096 .f32).view.readAt (Elt F) (Rect.unit (s := S512x4096) ![0, 512 * k.val] S512x512.size inbw).toLoadRect (wstg m ρ c) = wchunk m ρ c k from rfl,
    show k0_pay2 (xstg m ρ c) (wchunk m ρ c k) = chunkVal m ρ c k from rfl]
  ihave Hc := (Entails.of_eq (e2 f)) $$ Hc
  iapply (wp_send_chunk m ρ K c n k hn hoff₂ hS hR fn W (owed c (k.val + 1))) $$ [Hc Hd HO HtS HtR]
  · isplitr; · iexact HR
    isplitl [Hc]; · iexact Hc
    isplitl [Hd]; · iexact Hd
    isplitl [HO]; · iexact HO
    isplitl [HtS] <;> iassumption
  iintro ⟨Hcr, HO⟩
  iapply Hk
  isplitl [Hx]; · iexact Hx
  isplitl [Hw]; · iexact Hw
  isplitl [Hrest]; · iexact Hrest
  isplitl [Hcr Hsent]
  · isplitl [Hcr] <;> iassumption
  iexists W; iexact HO

/-- What the end of the outgoing copy hands over. -/
theorem rest_send (c : Dev nD) (k : Fin 8) :
    bigSep ((xRd (F := F) m ρ).duties (sendCell c k) 0 \ ∅) (fun d => (xRd (F := F) m ρ).payload (sendCell c k) 0 d) = sendPay m ρ c k := rest_cell m ρ c (cSend k)
/-- What the end of the incoming copy hands over. -/
theorem rest_recv (c : Dev nD) (k : Fin 8) :
    bigSep ((xRd (F := F) m ρ).duties (recvCell c k) 0 \ ∅) (fun d => (xRd (F := F) m ρ).payload (recvCell c k) 0 d) = recvPay m ρ c k := rest_cell m ρ c (cRecv k)

/-- Awaiting one chunk: the outgoing copy's end gives the chunk back, the incoming one's the peer's chunk; both cells
    then close with their counters at zero. -/
theorem wp_await (c : Dev nD) (k : Fin 8) {sS sR : DmaSem sig} (hS : sS = sendS k) (hR : sR = recvS k)
    {off : Fin 2 → ℕ} {inb₁ inb₂ inb₃ inb₄ : ∀ a, off a + S256x512.size a ≤ S256x8192.size a}
    {hu₁ hu₂ hu₃ hu₄ : ∀ a, (Rect.unit (s := S256x8192) off S256x512.size inb₁).stride a = 1}
    {hw₁ : (oM.slice (Rect.unit (s := S256x8192) off S256x512.size inb₁) hu₁ : Memref sig .tc .vmem S256x512 .f32).view.WordExact}
    {hw₂ : (oM.slice (Rect.unit (s := S256x8192) off S256x512.size inb₂) hu₂ : Memref sig .tc .vmem S256x512 .f32).view.WordExact}
    {hw₃ : (oM.slice (Rect.unit (s := S256x8192) off S256x512.size inb₃) hu₃ : Memref sig .tc .vmem S256x512 .f32).view.WordExact}
    {hw₄ : (oM.slice (Rect.unit (s := S256x8192) off S256x512.size inb₄) hu₄ : Memref sig .tc .vmem S256x512 .f32).view.WordExact}
    {α : Type} {Q : α → sProp 𝕄} {kt : PUnit → Prog (TpuEff nD τ sig (Elt F) Λ₀ .tc) α} :
    iprop(records m ρ K ∗ awaiting m ρ c k.val)
      ⊢ iprop((awaiting m ρ c (k.val + 1) -∗ wp frame (wpE (defs₀ (F := F)) 𝒱₀ (c : Thread nD τ) none) Set.univ (kt ⟨⟩) Q)
          -∗ wp frame (wpE (defs₀ (F := F)) 𝒱₀ (c : Thread nD τ) none) Set.univ
              (.op (.waitDma2 sS (oM.slice (Rect.unit (s := S256x8192) off S256x512.size inb₁) hu₁) (oM.slice (Rect.unit (s := S256x8192) off S256x512.size inb₂) hu₂) hw₁ hw₂) fun _ =>
                .op (.waitDma2 sR (oM.slice (Rect.unit (s := S256x8192) off S256x512.size inb₃) hu₃) (oM.slice (Rect.unit (s := S256x8192) off S256x512.size inb₄) hu₄) hw₃ hw₄) kt) Q) := by
  subst hS hR
  have hN : (oM.slice (Rect.unit (s := S256x8192) off S256x512.size inb₂) hu₂ : Memref sig .tc .vmem S256x512 .f32).view.dmaCredit = N := rfl
  unfold awaiting owesE
  rw [bigSep_finFrom_succ k.isLt, bigSep_finUpTo_succ k.isLt]
  iintro ⟨#HR, ⟨Hpend, Hrest⟩, Hgot, ⟨%W, HO⟩⟩ Hk
  unfold pend
  icases Hpend with ⟨HcS, HaS, HcR, HaR⟩
  iapply (Rounds.wp_wait_rest_token 𝒱₀ ER (xRd m ρ) (c : Thread nD τ) none (κ := K (c, cSend k)) (sm := csem (cSend k))
      (wpE_waitDma2_eq 𝒱₀ (c : Thread nD τ) none Set.univ) (Set.mem_univ _) () (O := 0) (W := W) (R := 0) (m := 0) (T := ∅)
      ((Nat.zero_add _).trans ((expect_cell m ρ c (cSend k)).symm))) $$ [HcS HO HaS]
  · isplitr; · iapply (inv_at m ρ K (c, cSend k)); iexact HR
    isplitl [HcS]; · iexact HcS
    isplitl [HO]; · iexact HO
    isplitr; · rw [MayWait_zero]; iempintro
    iexact HaS
  iintro ⟨HO, HaS, -, Hp⟩
  ihave HpS := (Entails.of_eq (rest_send m ρ c k)) $$ Hp
  iapply (Rounds.wp_wait_rest_token 𝒱₀ ER (xRd m ρ) (c : Thread nD τ) none (κ := K (c, cRecv k)) (sm := csem (cRecv k))
      (wpE_waitDma2_eq 𝒱₀ (c : Thread nD τ) none Set.univ) (Set.mem_univ _) () (O := 0) (R := 0) (m := 0) (T := ∅)
      ((Nat.zero_add _).trans ((expect_cell m ρ c (cRecv k)).symm))) $$ [HcR HO HaR]
  · isplitr; · iapply (inv_at m ρ K (c, cRecv k)); iexact HR
    isplitl [HcR]; · iexact HcR
    isplitl [HO]; · iexact HO
    isplitr; · rw [MayWait_zero]; iempintro
    iexact HaR
  iintro ⟨HO, HaR, -, Hp⟩
  ihave HpR := (Entails.of_eq (rest_recv m ρ c k)) $$ Hp
  imod (Rounds.cell_close ER (xRd m ρ) (Set.mem_univ (K (c, cSend k))) (fun h => h) (R := 0 + 1) (duties_later m ρ (sendCell c k))) $$ [HaS] with HzS
  · isplitr; · iapply (inv_at m ρ K (c, cSend k)); iexact HR
    iexact HaS
  imod (Rounds.cell_close ER (xRd m ρ) (Set.mem_univ (K (c, cRecv k))) (fun h => h) (R := 0 + 1) (duties_later m ρ (recvCell c k))) $$ [HaR] with HzR
  · isplitr; · iapply (inv_at m ρ K (c, cRecv k)); iexact HR
    iexact HaR
  iapply Hk
  isplitl [Hrest]; · iexact Hrest
  isplitl [HpS HpR HzS HzR Hgot]
  · isplitl [HpS HpR HzS HzR]
    · unfold got
      isplitl [HpS]; · iexact HpS
      isplitl [HpR]; · iexact HpR
      isplitl [HzS] <;> iassumption
    iexact Hgot
  iexists _; iexact HO

end Steps

/-! ## The whole body -/

/-- The result: the softmax of the logits, row by row. -/
def result (c : Dev nD) : (cc0_stg2_0 : Ref sig .tc).ty.Contents (Elt F) := k0_pay1 (logits m ρ c)

/-- The exchange's ghost state a device starts from: the records, its positions, the tokens of the duties it pays. -/
def linear (c : Dev nD) : sProp 𝕄 :=
  iprop(atPos ER (barCell c) 0 ∅ 0 ∗ dutyTok ER (barCell (peer c)) 0 ()
    ∗ (bigSep Finset.univ fun k : Fin 8 => iprop(atPos ER (sendCell c k) 0 ∅ 0 ∗ atPos ER (recvCell c k) 0 ∅ 0))
    ∗ bigSep Finset.univ fun k : Fin 8 => iprop(dutyTok ER (sendCell c k) 0 () ∗ dutyTok ER (recvCell (peer c) k) 0 ()))
/-- With the records. -/
def ghost (K : Dev nD × CIx → ℕ) (c : Dev nD) : sProp 𝕄 := iprop(records m ρ K ∗ linear (F := F) c)

/-- The credit a device starts with: its barrier's unit and its eight incoming chunks. -/
def credits (c : Dev nD) : sProp 𝕄 :=
  iprop(cred (tallyAt (barCell c) () 1) ∗ bigSep Finset.univ fun k : Fin 8 => cred (tallyAt (recvCell c k) () N))

/-- What a device's body starts from. -/
def Φ₀ (c : Dev nD) : sProp 𝕄 := iprop((∃ K, ghost m ρ K c) ∗ credits (F := F) c ∗ levAts L lv)
/-- What a device's body ends in: every counter of its own and its barrier's at zero. -/
def Φ₁ (c : Dev nD) : sProp 𝕄 :=
  iprop((bigSep Finset.univ fun k : Fin 8 => iprop(semVal (sendCell c k) 0 ∗ semVal (recvCell c k) 0)) ∗ semVal (barCell c) 0)

/-- What each window holds and what each device owes, before and after the one point of the grid. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => result m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The grid has one point. -/
theorem cfg0_N : cfg0.N = 1 := by decide
/-- That point. -/
def t₀ : Fin cfg0.N := ⟨0, by rw [cfg0_N]; decide⟩
/-- There is no other. -/
theorem fin_N (t : Fin cfg0.N) : t = t₀ := by
  obtain ⟨t, ht⟩ := t; have := cfg0_N; exact Fin.ext (by simp only [t₀]; omega)

/-- `x` is fetched there. -/
theorem fetch_0 : (cfg0.win (0 : Fin 3)).fetch t₀ = true := by rfl
/-- So is `W`. -/
theorem fetch_1 : (cfg0.win (1 : Fin 3)).fetch t₀ = true := by rfl

/-- Owning a whole buffer at contents `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from. -/
def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- What the body ends in. -/
def bodyPost (c : Dev nD) : sProp 𝕄 :=
  iprop(Φ₁ c ∗ (dats m ρ 0 c).owesAt () t₀.succ ∗ stg c cc0_stg0_0 (xstg m ρ c) ∗ stg c cc0_stg1_0 (wstg m ρ c) ∗ stg c cc0_stg2_0 (result m ρ c))

/-- What the peer's signal hands over. -/
theorem rest_bar (c : Dev nD) :
    bigSep ((xRd (F := F) m ρ).duties ((c : Thread nD τ), SemLoc.reg barS) 0 \ ∅)
      (fun d => (xRd (F := F) m ρ).payload ((c : Thread nD τ), SemLoc.reg barS) 0 d) = barPay c := rest_cell m ρ c cBar

/-- A chunk's room, forgetting what it holds. -/
theorem room (c d : Dev nD) (k : Fin 8) (f : Buf (Elt F) (oLoc c)) :
    (chunkPts c d k f : sProp 𝕄) ⊢ iprop(∃ f, chunkPts c d k f) := by
  show _ ⊢ _
  iintro H
  iexists f
  iexact H

/-- Own room, the peer's room and the tokens, chunk by chunk, are all there is to do. -/
theorem sending_intro (c : Dev nD) (f : Buf (Elt F) (oLoc c)) :
    iprop((bigSep Finset.univ fun k : Fin 8 => chunkPts c c k f) ∗ barPay c
        ∗ (bigSep Finset.univ fun k : Fin 8 => iprop(dutyTok ER (sendCell c k) 0 () ∗ dutyTok ER (recvCell (peer c) k) 0 ())) ∗ owesE c (owed c 0))
      ⊢ (sending c 0 : sProp 𝕄) := by
  have h : (bigSep Finset.univ fun k : Fin 8 => chunkPts c c k f : sProp 𝕄) ⊢ bigSep Finset.univ fun k : Fin 8 => iprop(∃ f, chunkPts c c k f) :=
    bigSep_mono fun k _ => room c c k f
  unfold sending barPay todo
  rw [bigSep_finFrom_zero, bigSep_finUpTo_zero]
  simp only [bigSep_sep']
  iintro ⟨H1, H2, ⟨H3, H4⟩, H5⟩
  isplitl [H1 H2 H3 H4]
  · isplitl [H1]; · iapply h; iexact H1
    isplitl [H2]; · iexact H2
    isplitl [H3] <;> iassumption
  isplitr; · iempintro
  iexact H5

/-- With all copies started and the positions and credit at hand, all waits are ahead. -/
theorem awaiting_intro (c : Dev nD) :
    iprop(sending (F := F) c 8 ∗ (bigSep Finset.univ fun k : Fin 8 => iprop(atPos ER (sendCell c k) 0 ∅ 0 ∗ atPos ER (recvCell c k) 0 ∅ 0))
        ∗ bigSep Finset.univ fun k : Fin 8 => cred (tallyAt (recvCell c k) () N))
      ⊢ (awaiting m ρ c 0 : sProp 𝕄) := by
  unfold sending awaiting pend
  rw [owed_end, bigSep_finFrom_self, bigSep_finUpTo_self, bigSep_finFrom_zero, bigSep_finUpTo_zero]
  simp only [bigSep_sep']
  iintro ⟨⟨-, H1, HO⟩, ⟨H2, H3⟩, H4⟩
  isplitl [H1 H2 H3 H4]
  · isplitl [H1]; · iexact H1
    isplitl [H2]; · iexact H2
    isplitl [H4] <;> iassumption
  isplitr; · iempintro
  iexact HO

/-- With all waits behind, the sixteen chunks make up the result buffer holding the logits. -/
theorem awaiting_elim (c : Dev nD) :
    (awaiting m ρ c 8 : sProp 𝕄)
      ⊢ iprop((oLoc c ↦{fullShare} logits m ρ c) ∗ (bigSep Finset.univ fun k : Fin 8 => iprop(semVal (sendCell c k) 0 ∗ semVal (recvCell c k) 0)) ∗ owesE c 0) := by
  unfold awaiting got
  rw [bigSep_finFrom_self, bigSep_finUpTo_self, out_split]
  simp only [bigSep_sep']
  unfold sendPay recvPay chunkPts
  iintro ⟨-, ⟨H1, H2, H3, H4⟩, HO⟩
  isplitl [H1 H2]
  · isplitl [H1] <;> iassumption
  isplitl [H3 H4]
  · isplitl [H3] <;> iassumption
  iexact HO

/-- The whole result buffer, as a rectangle of itself. -/
abbrev rO : Rect S256x8192 := Rect.unit (s := S256x8192) ![0, 0] S256x8192.size (by decide)

omit [FloatOps F] in
/-- Reading the whole result buffer. -/
theorem out_read (f : (cc0_stg2_0 : Ref sig .tc).ty.Contents (Elt F)) : (oM : Memref sig .tc .vmem S256x8192 .f32).view.readAt (Elt F) rO.toLoadRect f = f :=
  Memref.readAt_unit_zero (Elt F) cc0_stg2_0 hz _ f
omit [FloatOps F] in
/-- Writing the whole result buffer. -/
theorem out_write (f w : (cc0_stg2_0 : Ref sig .tc).ty.Contents (Elt F)) :
    ((oM : Memref sig .tc .vmem S256x8192 .f32).access rO : View sig .tc _ _ _).write (Elt F) f w Finset.univ = w :=
  Memref.write_access_unit_zero_univ (Elt F) cc0_stg2_0 hz _ f w

/-- A device number that the program computes is the peer's. -/
theorem dev_eq {n : ℕ} (c : Dev nD) (h : n < nD) (e : n = (4 * ((c.val / 4) % 2) + (c.val % 4) + 8) - 8 * (c.val / 8)) : (⟨n, h⟩ : Dev nD) = peer c :=
  Fin.ext (e.trans (addr_eq c))

set_option maxHeartbeats 1600000 in
/-- The body, one step at a time, from what the launch hands a device to its result. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) cc0_scratch0 cc0_scratch1) Kt := by
  rw [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, wp_deviceId]
  unfold bodyPre Φ₀ ghost credits linear
  iintro ⟨⟨⟨⟨%K, #HR, HaB, HtB, Hat, Htok⟩, ⟨HcB, HcR⟩, #Hlev⟩, Ho, ⟨%d0, %g0, %hg0, Hx⟩, ⟨%d1, %g1, %hg1, Hw⟩, ⟨%d2, %g2, %hg2, Hout⟩⟩, Hk⟩
  have hx : g0 = xstg m ρ c := by rw [hg0]; unfold Dat.before; rw [if_pos fetch_0]; rfl
  have hw : g1 = wstg m ρ c := by rw [hg1]; unfold Dat.before; rw [if_pos fetch_1]; rfl
  subst hx; subst hw
  unfold Dat.owesAt Pipeline.owesWithin
  icases Ho with ⟨%W, %hW, HO⟩
  rw [show (dats m ρ 0 c).owed t₀.castSucc = O₀ c from rfl]
  ihave Hout := (Entails.of_eq (out_split c g2)) $$ Hout
  icases Hout with ⟨Hown, Hpeer⟩
  unfold O₀
  rw [show (⟨_, k0_dev1_lt c⟩ : Dev nD) = peer c from dev_eq c _ (k0_dev1_eq c)]
  -- the signal hands the peer the room for its chunks
  iapply (Rounds.wp_signal 𝒱₀ ER (xRd m ρ) (c : Thread nD τ) none (dst := (peer c : Thread nD τ)) (κ := K (peer c, cBar))
      (d := ()) (mem_duties m ρ (peer c) cBar) ((amount_cell m ρ (peer c) cBar).trans rfl) () (owed c 0) rfl)
    $$ [HO HtB Hpeer]
  · isplitr; · iapply (inv_at m ρ K (peer c, cBar)); iexact HR
    isplitl [HO]; · iexact HO
    isplitl [HtB]; · iexact HtB
    isplitl [Hpeer]
    · rw [show (xRd (F := F) m ρ).payload ((peer c : Thread nD τ), SemLoc.reg barS) 0 () = barPay (peer c) from payload_cell m ρ (peer c) cBar]
      unfold barPay; rw [peer_peer]
      have h : (bigSep Finset.univ fun k : Fin 8 => chunkPts c (peer c) k g2 : sProp 𝕄)
          ⊢ bigSep Finset.univ fun k : Fin 8 => iprop(∃ f, chunkPts c (peer c) k f) := bigSep_mono fun k _ => room c (peer c) k g2
      iapply h; iexact Hpeer
    iapply (reached_at m ρ K (peer c, cBar)); iexact HR
  iintro HO
  -- the wait brings the room there
  iapply (Rounds.wp_wait_rest_token 𝒱₀ ER (xRd m ρ) (c : Thread nD τ) none (κ := K (c, cBar))
      (wpE_semWait_eq 𝒱₀ (c : Thread nD τ) none Set.univ) (Set.mem_univ _) () (O := owed c 0) (W := W) (R := 0) (m := 0) (T := ∅)
      ((Nat.zero_add _).trans (expect_cell m ρ c cBar).symm)) $$ [HcB HO HaB]
  · isplitr; · iapply (inv_at m ρ K (c, cBar)); iexact HR
    isplitl [HcB]; · iexact HcB
    isplitl [HO]; · iexact HO
    isplitr; · iapply (mayWait_bar c); iexact Hlev
    iexact HaB
  iintro ⟨HO, HaB, -, Hpay⟩
  ihave Hroom := (Entails.of_eq (rest_bar m ρ c)) $$ Hpay
  ihave Hs := (sending_intro c g2) $$ [Hown Hroom Htok HO]
  · isplitl [Hown]; · iexact Hown
    isplitl [Hroom]; · iexact Hroom
    isplitl [Htok]; · iexact Htok
    unfold owesE; iexists _; iexact HO
  ihave H : iprop(xPts m ρ c ∗ wPts m ρ c ∗ sending c 0) $$ [Hx Hw Hs]
  · unfold xPts wPts
    isplitl [Hx]; · iexact Hx
    isplitl [Hw] <;> iassumption
  iapply (wp_chunk m ρ K c _ 0 (dev_eq c _ (k0_dev2_eq c)) (show k0_off1 c 0#32 = chunkOff c 0 from k0_off1_eq c 0) (show k0_off2 c 0#32 = chunkOff c 0 from k0_off2_eq c 0) (fun _ _ => rfl) rfl rfl) $$ [H]
  · isplitr; · iexact HR
    iexact H
  iintro H
  iapply (wp_chunk m ρ K c _ 1 (dev_eq c _ (k0_dev3_eq c)) (show k0_off1 c 512#32 = chunkOff c 1 from k0_off1_eq c 1) (show k0_off2 c 512#32 = chunkOff c 1 from k0_off2_eq c 1) (fun _ _ => rfl) rfl rfl) $$ [H]
  · isplitr; · iexact HR
    iexact H
  iintro H
  iapply (wp_chunk m ρ K c _ 2 (dev_eq c _ (k0_dev4_eq c)) (show k0_off1 c 1024#32 = chunkOff c 2 from k0_off1_eq c 2) (show k0_off2 c 1024#32 = chunkOff c 2 from k0_off2_eq c 2) (fun _ _ => rfl) rfl rfl) $$ [H]
  · isplitr; · iexact HR
    iexact H
  iintro H
  iapply (wp_chunk m ρ K c _ 3 (dev_eq c _ (k0_dev5_eq c)) (show k0_off1 c 1536#32 = chunkOff c 3 from k0_off1_eq c 3) (show k0_off2 c 1536#32 = chunkOff c 3 from k0_off2_eq c 3) (fun _ _ => rfl) rfl rfl) $$ [H]
  · isplitr; · iexact HR
    iexact H
  iintro H
  iapply (wp_chunk m ρ K c _ 4 (dev_eq c _ (k0_dev6_eq c)) (show k0_off1 c 2048#32 = chunkOff c 4 from k0_off1_eq c 4) (show k0_off2 c 2048#32 = chunkOff c 4 from k0_off2_eq c 4) (fun _ _ => rfl) rfl rfl) $$ [H]
  · isplitr; · iexact HR
    iexact H
  iintro H
  iapply (wp_chunk m ρ K c _ 5 (dev_eq c _ (k0_dev7_eq c)) (show k0_off1 c 2560#32 = chunkOff c 5 from k0_off1_eq c 5) (show k0_off2 c 2560#32 = chunkOff c 5 from k0_off2_eq c 5) (fun _ _ => rfl) rfl rfl) $$ [H]
  · isplitr; · iexact HR
    iexact H
  iintro H
  iapply (wp_chunk m ρ K c _ 6 (dev_eq c _ (k0_dev8_eq c)) (show k0_off1 c 3072#32 = chunkOff c 6 from k0_off1_eq c 6) (show k0_off2 c 3072#32 = chunkOff c 6 from k0_off2_eq c 6) (fun _ _ => rfl) rfl rfl) $$ [H]
  · isplitr; · iexact HR
    iexact H
  iintro H
  iapply (wp_chunk m ρ K c _ 7 (dev_eq c _ (k0_dev9_eq c)) (show k0_off1 c 3584#32 = chunkOff c 7 from k0_off1_eq c 7) (show k0_off2 c 3584#32 = chunkOff c 7 from k0_off2_eq c 7) (fun _ _ => rfl) rfl rfl) $$ [H]
  · isplitr; · iexact HR
    iexact H
  iintro H
  icases H with ⟨Hx, Hw, Hs⟩
  ihave H := (awaiting_intro m ρ c) $$ [Hs Hat HcR]
  · isplitl [Hs]; · iexact Hs
    isplitl [Hat] <;> iassumption
  iapply (wp_await m ρ K c 0 rfl rfl) $$ [H]
  · isplitr; · iexact HR
    iexact H
  iintro H
  iapply (wp_await m ρ K c 1 rfl rfl) $$ [H]
  · isplitr; · iexact HR
    iexact H
  iintro H
  iapply (wp_await m ρ K c 2 rfl rfl) $$ [H]
  · isplitr; · iexact HR
    iexact H
  iintro H
  iapply (wp_await m ρ K c 3 rfl rfl) $$ [H]
  · isplitr; · iexact HR
    iexact H
  iintro H
  iapply (wp_await m ρ K c 4 rfl rfl) $$ [H]
  · isplitr; · iexact HR
    iexact H
  iintro H
  iapply (wp_await m ρ K c 5 rfl rfl) $$ [H]
  · isplitr; · iexact HR
    iexact H
  iintro H
  iapply (wp_await m ρ K c 6 rfl rfl) $$ [H]
  · isplitr; · iexact HR
    iexact H
  iintro H
  iapply (wp_await m ρ K c 7 rfl rfl) $$ [H]
  · isplitr; · iexact HR
    iexact H
  iintro H
  rw [show ((7 : Fin 8) : ℕ) + 1 = 8 from rfl]
  ihave H := (awaiting_elim m ρ c) $$ H
  unfold owesE
  icases H with ⟨Hout, Hz, ⟨%W', HO⟩⟩
  imod (Rounds.cell_close ER (xRd m ρ) (Set.mem_univ (K (c, cBar))) (fun h => h) (R := 0 + 1) (duties_later m ρ (barCell c))) $$ [HaB] with HzB
  · isplitr; · iapply (inv_at m ρ K (c, cBar)); iexact HR
    iexact HaB
  -- the softmax of the whole buffer
  iapply (wp_load 𝒱₀ (c : Thread nD τ) none Set.univ (m := oM) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [out_read, out_write, wp_ret]; imodintro
  iapply Hk
  unfold bodyPost Φ₁ Dat.owesAt Pipeline.owesWithin
  rw [show (dats m ρ 0 c).owed t₀.succ = 0 from rfl]
  isplitl [Hz HzB]
  · isplitl [Hz] <;> iassumption
  isplitl [HO]
  · iexists W'
    isplitr; · ipureintro; exact fun _ _ => Or.inl trivial
    iexact HO
  isplitl [Hx]
  · iexists _; isplitr; · (ipureintro; rfl)
    unfold xPts; iexact Hx
  isplitl [Hw]
  · iexists _; isplitr; · (ipureintro; rfl)
    unfold wPts; iexact Hw
  iexists _; isplitr; · (ipureintro; rfl)
  iexact Hout

set_option maxRecDepth 4000 in
/-- What the pipeline asks of the body on device `c`. -/
theorem body_obligation (c : Dev nD) : BodyObligation (dats (F := F) m ρ 0 c) (defs₀ (F := F)) 𝒱₀ () Set.univ := fun t => by
  rw [fin_N t, Gen.bigSep_W0, Gen.bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) cc0_scratch0 cc0_scratch1) (fun _ => bodyPost m ρ c)
  iintro H
  iapply (sound_body m ρ c fun _ => bodyPost m ρ c)
  isplitl [H]; · iexact H
  iintro H; iexact H

end Cert.Exchange

end
-- ==== Proof.Launch.lean ====
/-
The launch: the sixteen devices' bodies together, from any memory with every counter at zero.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.ProtocolKit

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The sixteen copy semaphores are the kernel's own. -/
theorem ownSemFacts : Pipeline.OwnSemFacts cfg0.spec osem := by decide

/-- Every window is held whole. -/
theorem share_eq (c : Dev nD) (w : Fin cfg0.W) : (dats m ρ 0 c).share w = fullShare := by unfold Dat.share; split <;> rfl

/-- Every cell of the exchange. -/
def xCells : Finset (GSem nD τ sig) := Finset.univ.map ⟨kcell, kcell_injective⟩
/-- The one token of each cell. -/
def xToks : Finset (GSem nD τ sig × ℕ × Unit) := Finset.univ.map ⟨fun ck => (kcell ck, 0, ()), fun _ _ h => kcell_injective (congrArg Prod.fst h)⟩

/-- The ghost state at launch. -/
def u₀ : UU := (initOf (Pipeline.cells cfgs cellOf_inj) (Pipeline.launchToks cfgs cellOf_inj), initOf xCells xToks)

/-- A family over a device's cells is its barrier's member, the outgoing ones and the incoming ones. -/
theorem bigSep_cells (Φ : CIx → sProp 𝕄) :
    bigSep Finset.univ Φ = iprop(Φ cBar ∗ (bigSep Finset.univ fun k => Φ (cSend k)) ∗ bigSep Finset.univ fun k => Φ (cRecv k)) := by
  rw [BI.bigSep_univ_sum, BI.bigSep_univ_sum, show (Finset.univ : Finset Unit) = {()} from rfl, BI.bigSep_singleton]
  rfl

/-- What the launch deals a device for its cells, before their invariants stand. -/
def dealt (c : Dev nD) : sProp 𝕄 :=
  iprop((bigSep Finset.univ fun k => roundState ER (xRd m ρ) (kcell (c, k)) 0) ∗ (bigSep Finset.univ fun k => reached ER (kcell (c, k)) 0)
    ∗ (bigSep Finset.univ fun k => atPos ER (kcell (c, k)) 0 ∅ 0) ∗ bigSep Finset.univ fun k => dutyTok ER (kcell (c, k)) 0 ())
/-- What the device has for them once the invariants stand. -/
def stood (c : Dev nD) : sProp 𝕄 :=
  iprop((bigSep Finset.univ fun k => iprop(∃ κ : ℕ, cellInv ER (xRd m ρ) κ (kcell (c, k)))) ∗ (bigSep Finset.univ fun k => reached ER (kcell (c, k)) 0)
    ∗ (bigSep Finset.univ fun k => atPos ER (kcell (c, k)) 0 ∅ 0) ∗ bigSep Finset.univ fun k => dutyTok ER (kcell (c, k)) 0 ())

/-- The launch's share of the ghost state is every device's deal. -/
theorem fund_cells : BI.own (ER (initOf xCells xToks)) ⊢ (|==> bigSep Finset.univ (dealt m ρ) : sProp 𝕄) := by
  have hX (Φ : GSem nD τ sig → sProp 𝕄) : bigSep xCells Φ = bigSep Finset.univ fun c : Dev nD => bigSep Finset.univ fun k : CIx => Φ (kcell (c, k)) := by
    unfold xCells; rw [bigSep_map, bigSep_univ_prod]; rfl
  have hT : bigSep xToks (fun x => (dutyTok ER x.1 x.2.1 x.2.2 : sProp 𝕄))
      = bigSep Finset.univ fun c : Dev nD => bigSep Finset.univ fun k : CIx => dutyTok ER (kcell (c, k)) 0 () := by
    unfold xToks; rw [bigSep_map, bigSep_univ_prod]; rfl
  iintro HX
  imod (Rounds.fund ER (xRd m ρ) xCells xToks) $$ HX with ⟨Hst, Hr, Hat, Htok⟩
  imodintro
  ihave Hst := (Entails.of_eq (hX fun g => roundState ER (xRd m ρ) g 0)) $$ Hst
  ihave Hr := (Entails.of_eq (hX fun g => reached ER g 0)) $$ Hr
  ihave Hat := (Entails.of_eq (hX fun g => atPos ER g 0 ∅ 0)) $$ Hat
  ihave Htok := (Entails.of_eq hT) $$ Htok
  unfold dealt; simp only [bigSep_sep']
  isplitl [Hst]; · iexact Hst
  isplitl [Hr]; · iexact Hr
  isplitl [Hat] <;> iassumption

/-- A device's counters at zero, cell by cell. -/
theorem own_zero (c : Dev nD) : (Pipeline.ownSems0 (Ix := Unit) (Name := ℕ) (U := UU) (Lvl := ℕ) (Val := Elt F) (τ := τ) osem c : sProp 𝕄)
    = iprop((bigSep Finset.univ fun k => semVal (sendCell c k) 0) ∗ bigSep Finset.univ fun k => semVal (recvCell c k) 0) := by
  unfold Pipeline.ownSems0; rw [BI.bigSep_univ_sum]; rfl
/-- A device's barrier at zero is its one counter outside the kernel. -/
theorem bar_zero (c : Dev nD) : (unscopedSems0 c : sProp 𝕄) = semVal (barCell c) 0 := by
  unfold unscopedSems0; rw [bigSep_eq_bigSepL_of_eq [SemLoc.reg barS] (by decide) (by decide)]; rfl

/-- On one device the counters at zero and the deal set up the invariants. -/
theorem stand (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> stood m ρ c := by
  have h : iprop((bigSep Finset.univ fun k : CIx => semVal (kcell (c, k)) 0) ∗ bigSep Finset.univ fun k : CIx => roundState ER (xRd m ρ) (kcell (c, k)) 0)
      ⊢ (|={Set.univ}=> bigSep Finset.univ fun k => iprop(∃ κ : ℕ, cellInv ER (xRd m ρ) κ (kcell (c, k))) : sProp 𝕄) := by
    rw [← bigSep_sep']
    exact (bigSep_mono fun k _ => (Rounds.body_intro ER (xRd m ρ) (kcell (c, k))).trans inv_alloc).trans (bigSep_fupd _ _)
  rw [own_zero, bar_zero]
  unfold dealt stood
  iintro ⟨⟨HS, HR⟩, HB, Hst, Hrest⟩
  imod h $$ [HS HR HB Hst] with Hinv
  · isplitr [Hst]
    · rw [bigSep_cells]
      isplitl [HB]; · iexact HB
      isplitl [HS] <;> iassumption
    iexact Hst
  imodintro
  isplitl [Hinv]; · iexact Hinv
  iexact Hrest

/-- Positions stay, and each token goes to the device that pays it: the barrier's and the incoming chunks' to the peer. -/
theorem deal_out :
    iprop((bigSep Finset.univ fun c : Dev nD => bigSep Finset.univ fun k : CIx => atPos ER (kcell (c, k)) 0 ∅ 0)
        ∗ bigSep Finset.univ fun c : Dev nD => bigSep Finset.univ fun k : CIx => dutyTok ER (kcell (c, k)) 0 ())
      ⊢ (bigSep Finset.univ (linear (F := F)) : sProp 𝕄) := by
  unfold linear
  simp only [bigSep_cells, bigSep_sep']
  rw [bigSep_univ_equiv pairing (fun c : Dev nD => (dutyTok ER (barCell c) 0 () : sProp 𝕄)),
    bigSep_univ_equiv pairing (fun c : Dev nD => (bigSep Finset.univ fun k => dutyTok ER (recvCell c k) 0 () : sProp 𝕄))]
  iintro ⟨⟨HaB, HaS, HaR⟩, HtB, HtS, HtR⟩
  isplitl [HaB]; · iexact HaB
  isplitl [HtB]; · iexact HtB
  isplitl [HaS HaR]
  · isplitl [HaS] <;> iassumption
  isplitl [HtS]; · iexact HtS
  iexact HtR

/-- All devices' invariants under one naming, which every device keeps. -/
theorem gather : (bigSep Finset.univ (stood m ρ) : sProp 𝕄) ⊢ bigSep Finset.univ fun c : Dev nD => iprop(∃ K, ghost m ρ K c) := by
  have hk (K : Dev nD × CIx → ℕ) : iprop(records m ρ K ∗ bigSep Finset.univ (linear (F := F))) ⊢ bigSep Finset.univ fun c : Dev nD => iprop(∃ K, ghost m ρ K c) := by
    refine (sep_mono_left (BI.bigSep_of_persistent (Finset.univ : Finset (Dev nD)) (records m ρ K))).trans ?_
    rw [← bigSep_sep']
    refine bigSep_mono fun c _ => ?_
    show iprop(records m ρ K ∗ linear (F := F) c) ⊢ iprop(∃ K, ghost m ρ K c)
    iintro H; iexists K; unfold ghost; iexact H
  unfold stood
  rw [bigSep_sep', bigSep_sep', bigSep_sep', ← bigSep_univ_prod (fun ck : Dev nD × CIx => iprop(∃ κ : ℕ, cellInv ER (xRd m ρ) κ (kcell ck))),
    ← bigSep_univ_prod (fun ck : Dev nD × CIx => (reached ER (kcell ck) 0 : sProp 𝕄))]
  iintro ⟨HI, HR, Hlin⟩
  ihave HK := (BI.bigSep_exists_pi Finset.univ (fun (ck : Dev nD × CIx) (κ : ℕ) => (cellInv ER (xRd m ρ) κ (kcell ck) : sProp 𝕄))) $$ HI
  icases HK with ⟨%K, HI⟩
  ihave Hl := (deal_out (F := F)) $$ Hlin
  iapply (hk K)
  isplitr [Hl]
  · unfold records; isplitl [HI] <;> iassumption
  iexact Hl

/-- The set-up of all devices together. -/
theorem glob :
    (bigSep Finset.univ fun c : Dev nD => iprop(Pipeline.ownSems0 (Ix := Unit) (Name := ℕ) (U := UU) (Lvl := ℕ) (Val := Elt F) (τ := τ) osem c ∗ unscopedSems0 c ∗ dealt m ρ c) : sProp 𝕄)
      ⊢ |={Set.univ}=> bigSep Finset.univ fun c : Dev nD => iprop(∃ K, ghost m ρ K c) :=
  ((bigSep_mono fun c _ => stand m ρ c).trans (bigSep_fupd _ _)).trans (BI.fupd_mono (gather m ρ))

/-! ## The launch credit -/

/-- What device `d` owes a cell of device `c`: nothing unless they are peers. -/
theorem owed_cell (d c : Dev nD) (j : CIx) :
    O₀ d (kcell (c, j)) () = if d = peer c then (Sum.elim (fun _ => 1) (Sum.elim (fun _ => 0) fun _ => N) j : ℕ) else 0 := by
  have key (ck ck' : Dev nD × CIx) (n : ℕ) : tallyAt (kcell ck) () n (kcell ck') () = if ck' = ck then n else 0 := by
    rw [tallyAt_apply]; exact if_congr ⟨fun h => kcell_injective h.1, fun h => ⟨congrArg _ h, rfl⟩⟩ rfl rfl
  have hd : (c = peer d) ↔ (d = peer c) := ⟨fun h => by rw [h, peer_peer], fun h => by rw [h, peer_peer]⟩
  unfold O₀ owed
  rw [Pi.add_apply, Finsupp.add_apply, Finset.sum_apply, Finsupp.finset_sum_apply, key]
  simp only [key, Prod.mk.injEq, hd]
  by_cases h : d = peer c
  · simp only [h, true_and, if_true]
    rcases j with u | k | k
    · simp [finFrom]
    · simp [finFrom]
    · simp [finFrom]
  · simp [h]

/-- The credit of a cell, summed over the devices that owe it. -/
theorem launch_cell (c : Dev nD) (j : CIx) :
    tallyOn (kcell (c, j)) (launchCredit (Pipeline.owing O₀) 0 (kcell (c, j)))
      = (tallyAt (kcell (c, j)) () (Sum.elim (fun _ => 1) (Sum.elim (fun _ => 0) fun _ => N) j) : CellTallies nD τ sig Unit) := by
  unfold tallyAt; refine congrArg _ (Finsupp.ext fun u => ?_); cases u
  rw [Pipeline.launchCredit_owing, Finsupp.single_eq_same, Finset.sum_congr rfl fun d _ => owed_cell d c j, Finset.sum_ite_eq' Finset.univ (peer c),
    if_pos (Finset.mem_univ _)]

/-- The credit of the launch is what a device starts with. -/
theorem credits_intro (c : Dev nD) : (Pipeline.launchCred O₀ c : sProp 𝕄) ⊢ credits c := by
  unfold Pipeline.launchCred credits
  refine (bigSep_subset (Finset.subset_univ (Finset.univ.map ⟨csem, csem_inj⟩))).trans ?_
  rw [bigSep_map, bigSep_cells]
  simp only [Function.Embedding.coeFn_mk]
  rw [show (tallyOn ((c : Thread nD τ), csem cBar) (launchCredit (Pipeline.owing O₀) 0 ((c : Thread nD τ), csem cBar)) : CellTallies nD τ sig Unit)
      = tallyAt (barCell c) () 1 from launch_cell c cBar,
    bigSep_congr (s := Finset.univ) (fun (k : Fin 8) _ => congrArg cred (show (tallyOn ((c : Thread nD τ), csem (cRecv k)) (launchCredit (Pipeline.owing O₀) 0 ((c : Thread nD τ), csem (cRecv k))) : CellTallies nD τ sig Unit)
      = tallyAt (recvCell c k) () N from launch_cell c (cRecv k)))]
  show (_ : sProp 𝕄) ⊢ _
  iintro ⟨HB, -, HR⟩
  isplitl [HB] <;> iassumption

/-! ## The run -/

/-- What the launch hands a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ (∃ K, ghost m ρ K c))
      ⊢ |={Set.univ}=> iprop(Φ₀ m ρ c ∗ emp) := by
  unfold Φ₀
  iintro ⟨-, Hlev, Hcr, -, HG⟩
  ihave Hc := (credits_intro (F := F) c) $$ Hcr
  imodintro
  isplitl
  · isplitl [HG]; · iexact HG
    isplitl [Hc] <;> iassumption
  iempintro

/-- It enters the one point of the grid with that. -/
theorem phi_enter (c : Dev nD) :
    iprop(Φ₀ m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  iintro ⟨H, -, -⟩
  iexact H

/-- It leaves that point with every counter at zero. -/
theorem phi_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, own_zero, bar_zero, scopedRest0_eq]
  unfold Φ₁
  simp only [bigSep_sep']
  iintro ⟨Hz, HzB⟩
  isplitl [HzB]; · iexact HzB
  isplitl [Hz]; · iexact Hz
  iempintro

/-- A staging semaphore is none of the exchange's, and lies lowest. -/
theorem lv_stage (c : Dev nD) (q : DmaSem sig) (h : ∀ j, csem j ≠ .dma q) : lv ((c : Thread nD τ), .dma q) () = 0 := by
  unfold lv which Function.partialInv
  rw [dif_neg fun ⟨j, hj⟩ => h j hj]; rfl

/-- A device may wait for its staging buffers. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (lv_stage c _ (by fin_cases w <;> fin_cases s <;> decide)) _ (by
      rcases t with ⟨_ | _, ht⟩
      · exact Or.inl rfl
      · exact Or.inr rfl)

/-- What window `w`'s array holds on device `c` at the end. -/
def finalA (c : Dev nD) (w : Fin cfg0.W) : Buf (Elt F) ((cfg0.win w).arr.view.loc (c : Thread nD τ)) := (dats m ρ 0 c).arrAt w cfg0.N

set_option maxRecDepth 8000 in
/-- For any float values and any inputs, every fair run of the sixteen devices ends, with every window's array at its
    final contents and every counter at zero. -/
theorem run_main : θ_run defs (onTc (τ := τ) (main (F := F))) (s₀ m ρ)
    (fun r => (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m ρ) (G' := fun c => iprop(∃ K, ghost m ρ K c)) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := Φ₀ m ρ) (Y := fun c => unscopedSems0 c) (Z := fun _ => iprop(emp))
    (hX := start_intro m ρ) (hin := phi_enter m ρ) (hout := phi_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The first input's array is as it was. -/
theorem final_x (c : Dev nD) : finalA m ρ c (0 : Fin 3) = m ((c : Thread nD τ).loc main_arg0) := (dats (F := F) m ρ 0 c).arrAt_in (0 : Fin 3) rfl _
/-- So is the second input's. -/
theorem final_w (c : Dev nD) : finalA m ρ c (1 : Fin 3) = m ((c : Thread nD τ).loc main_arg1) := (dats (F := F) m ρ 0 c).arrAt_in (1 : Fin 3) rfl _

end Cert.Exchange

end
-- ==== Proof.Value.lean ====
/-
What the kernel leaves in its result, over the extended reals: the softmax of the product of the two arguments.
-/
module

public import proofs.«01_k».proof.Proof.Launch
public import proofs.«01_k».proof.Proof.Gen.ReferenceIdeal.Run
public import Idealize.ShloMosaic.Lib.KernelVsHost
public import Idealize.ShloMosaic.Lib.Pointwise
public import Idealize.ShloMosaic.Lib.Layout

@[expose] public section

noncomputable section

namespace Cert.Exchange

open Cert.KernelIdeal Cert.KernelIdeal.Gen

open Idealize.ShloMosaic
open Idealize.ShloMosaic.TcCoe
open Idealize.SL.Sem

/-! ## The arrays and the staged blocks, for any float values -/

section AnyFloat

variable {F : FTy → Type} [FloatOps F]

variable (m : (ℓ : Loc nD τ sig) → Buf (Elt F) ℓ) (ρ : Dev nD → PrngReg)

/-- The one block of the result array is the whole array. -/
theorem read_out (f : S256x8192.Idx → F .f32) : (win0_2.blk (0 : Fin 1)).view.read (Elt F) f = f := by
  funext i
  refine congrArg f (?_ : (win0_2.blk (0 : Fin 1)).view.emb i = i)
  funext a
  match a with
  | 0 => exact Fin.ext (by show 0 * 256 + 1 * (i 0).val = (i 0).val; omega)
  | 1 => exact Fin.ext (by show 0 * 8192 + 1 * (i 1).val = (i 1).val; omega)

/-- The result array ends as the staged result. -/
theorem final_out (c : Dev nD) : finalA m ρ c (2 : Fin 3) = result m ρ c := by
  have h : (win0_2.blk (0 : Fin 1)).view.read (Elt F) (finalA m ρ c (2 : Fin 3)) = result m ρ c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (read_out _).symm.trans h

/-- The staged left operand is the first argument. -/
theorem xstg_eq (c : Dev nD) : xstg m ρ c = m ((c : Thread nD τ).loc main_arg0) := by
  funext i
  refine congrArg (m ((c : Thread nD τ).loc main_arg0)) (?_ : (win0_0.blk (0 : Fin 1)).view.emb i = i)
  funext a
  match a with
  | 0 => exact Fin.ext (by show 0 * 256 + 1 * (i 0).val = (i 0).val; omega)
  | 1 => exact Fin.ext (by show 0 * 512 + 1 * (i 1).val = (i 1).val; omega)

/-- The staged right operand is the second argument. -/
theorem wstg_eq (c : Dev nD) : wstg m ρ c = m ((c : Thread nD τ).loc main_arg1) := by
  funext i
  refine congrArg (m ((c : Thread nD τ).loc main_arg1)) (?_ : (win0_1.blk (0 : Fin 1)).view.emb i = i)
  funext a
  match a with
  | 0 => exact Fin.ext (by show 0 * 512 + 1 * (i 0).val = (i 0).val; omega)
  | 1 => exact Fin.ext (by show 0 * 4096 + 1 * (i 1).val = (i 1).val; omega)

/-- Chunk `k` of the staged right operand starts `512 k` columns into the second argument. -/
theorem wchunk_apply (c : Dev nD) (k : Fin 8) (r : Fin 512) (j : Fin 512) :
    wchunk m ρ c k (ix2 r j) = m ((c : Thread nD τ).loc main_arg1) (ix2 r (⟨512 * k.val + j.val, by omega⟩ : Fin 4096)) := by
  unfold wchunk
  rw [wstg_eq]
  refine congrArg (m ((c : Thread nD τ).loc main_arg1)) (?_ : (wchunkR k).idx (ix2 r j) = _)
  funext a
  match a with
  | 0 => exact Fin.ext (by show 0 + 1 * r.val = r.val; omega)
  | 1 => exact Fin.ext (by show 512 * k.val + 1 * j.val = 512 * k.val + j.val; omega)

end AnyFloat

/-! ## Over the extended reals -/

/-- A vector laid along the columns of a matrix, as the reference lays it and as the kernel does. -/
theorem columns_eq (x : FVec Ideal S256 .f32) :
    broadcastTo S256x8192 (shapeCast S256x1 x shapeCasts_S256_S256x1) broadcasts_S256x1_S256x8192
      = broadcastInDim Cert.ReferenceIdeal.S256x8192 ![0, 1] Cert.ReferenceIdeal.Gen.bcast_S256x1_S256x8192_0_1
          (broadcastInDim Cert.ReferenceIdeal.S256x1 ![0] Cert.ReferenceIdeal.Gen.bcast_S256_S256x1_0 x) := by
  funext j
  pointwise

/-- The reference's row maxima of `v`, laid along the columns. -/
def maxima (v : FVec Ideal S256x8192 .f32) : FVec Ideal S256x8192 .f32 :=
  broadcastInDim Cert.ReferenceIdeal.S256x8192 ![0, 1] Cert.ReferenceIdeal.Gen.bcast_S256x1_S256x8192_0_1
    (broadcastInDim Cert.ReferenceIdeal.S256x1 ![0] Cert.ReferenceIdeal.Gen.bcast_S256_S256x1_0
      (Host.reduce FloatOps.maximumf v (constant Cert.ReferenceIdeal.S_ .f32 0xFF800000#32) Cert.ReferenceIdeal.Gen.reducesTo_S256x8192_S256_d1 Cert.ReferenceIdeal.Gen.h_S_))

/-- The reference's row sums of `v`, laid along the columns. -/
def sums (v : FVec Ideal S256x8192 .f32) : FVec Ideal S256x8192 .f32 :=
  broadcastInDim Cert.ReferenceIdeal.S256x8192 ![0, 1] Cert.ReferenceIdeal.Gen.bcast_S256x1_S256x8192_0_1
    (broadcastInDim Cert.ReferenceIdeal.S256x1 ![0] Cert.ReferenceIdeal.Gen.bcast_S256_S256x1_0
      (Host.reduceAdd v (constant Cert.ReferenceIdeal.S_ .f32 0x00000000#32) Cert.ReferenceIdeal.Gen.reducesTo_S256x8192_S256_d1 Cert.ReferenceIdeal.Gen.h_S_))

/-- The reference's softmax of logits `v`. -/
def softmax (v : FVec Ideal S256x8192 .f32) : FVec Ideal S256x8192 .f32 :=
  Host.divf (Host.exp (subf v (maxima v))) (sums (Host.exp (subf v (maxima v))))

/-- The kernel's row maxima are the reference's. -/
theorem maxima_eq (v : FVec Ideal S256x8192 .f32) :
    broadcastTo S256x8192 (shapeCast S256x1 (multiReduction .maximumf [1] S256 v 0xFF800000#32 reduces_S256x8192_S256 (.inl rfl) rfl) shapeCasts_S256_S256x1) broadcasts_S256x1_S256x8192
      = maxima v := by
  rw [columns_eq]
  refine congrArg (fun t => broadcastInDim _ _ _ (broadcastInDim _ _ _ t)) ?_
  exact (hostReduce_maximumf_eq_multiReduction v 0xFF800000#32 Cert.ReferenceIdeal.Gen.reducesTo_S256x8192_S256_d1 Cert.ReferenceIdeal.Gen.h_S_ _ _ _).symm

/-- The kernel's row sums are the reference's. -/
theorem sums_eq (v : FVec Ideal S256x8192 .f32) :
    broadcastTo S256x8192 (shapeCast S256x1 (multiReduction .add [1] S256 v 0x00000000#32 reduces_S256x8192_S256 (.inl rfl) rfl) shapeCasts_S256_S256x1) broadcasts_S256x1_S256x8192
      = sums v := by
  rw [columns_eq]
  refine congrArg (fun t => broadcastInDim _ _ _ (broadcastInDim _ _ _ t)) ?_
  exact multiReduction_add_eq_hostReduceAdd v _ _ _ _ _ Cert.ReferenceIdeal.Gen.reducesTo_S256x8192_S256_d1 Cert.ReferenceIdeal.Gen.h_S_ Ideal.ofBits_zero_f32

/-- What the kernel computes from the gathered logits is the reference's softmax of them. -/
theorem softmax_eq (v : FVec Ideal S256x8192 .f32) : k0_pay1 v = softmax v := by
  have hv : shapeCast S256x8192 v shapeCasts_S256x8192_S256x8192 = v := funext fun i => congrArg v (Shape.reshapeEquiv_self _ i)
  unfold k0_pay1
  simp only [hv]
  rw [maxima_eq, sums_eq]
  rfl

/-- A device's first argument. -/
def argX (m : (ℓ : Loc nD τ sig) → Buf (Elt Ideal) ℓ) (c : Dev nD) : FVec Ideal S256x512 .f32 := m ((c : Thread nD τ).loc main_arg0)
/-- A device's second argument. -/
def argW (m : (ℓ : Loc nD τ sig) → Buf (Elt Ideal) ℓ) (c : Dev nD) : FVec Ideal S512x4096 .f32 := m ((c : Thread nD τ).loc main_arg1)

/-- One chunk of logits at an index: a row of the first argument times a column of the second. -/
theorem chunkVal_apply (m : (ℓ : Loc nD τ sig) → Buf (Elt Ideal) ℓ) (ρ : Dev nD → PrngReg) (c : Dev nD) (k : Fin 8) (r : Fin 256) (j : Fin 512) :
    chunkVal m ρ c k (ix2 r j) = ∑ q : Fin 512, argX m c (ix2 r q) * argW m c (ix2 q (⟨512 * k.val + j.val, by omega⟩ : Fin 4096)) := by
  unfold chunkVal
  rw [show xstg m ρ c = argX m c from xstg_eq m ρ c]
  have hw : ∀ q : Fin 512, wchunk m ρ c k (ix2 q j) = argW m c (ix2 q (⟨512 * k.val + j.val, by omega⟩ : Fin 4096)) := fun q => wchunk_apply m ρ c k q j
  revert hw
  generalize wchunk m ρ c k = w
  intro hw
  refine Eq.trans (b := ∑ q : Fin 512, argX m c (ix2 r q) * w (ix2 q j)) (by pointwise [k0_pay2]) (Finset.sum_congr rfl fun q _ => by rw [hw])

/-- When every device holds the whole of `X` and its own half of the columns of `W`, the gathered logits are `X · W`. -/
theorem logits_eq (m : (ℓ : Loc nD τ sig) → Buf (Elt Ideal) ℓ) (ρ : Dev nD → PrngReg) (X : FVec Ideal S256x512 .f32) (W : FVec Ideal Cert.ReferenceIdeal.S512x8192 .f32)
    (hX : ∀ c : Dev nD, argX m c = X)
    (hW : ∀ c : Dev nD, argW m c = Layout.blockN ⟨2, ![512, 4096]⟩ ⟨2, ![512, 8192]⟩ (Layout.meshBlock [2, 2, 4] ![[], [0]] c) W)
    (c : Dev nD) : logits m ρ c = Host.dotGeneral Cert.ReferenceIdeal.dot_S256x512_S512x8192_S256x8192_1_0_0_1_n_n none X W := by
  funext i
  obtain ⟨r, j, rfl⟩ : ∃ (r : Fin 256) (j : Fin 8192), i = ix2 r j := ⟨i 0, i 1, eq_ix2 i⟩
  have hj := j.isLt
  refine Eq.trans (b := ∑ q : Fin 512, X (ix2 r q) * W (ix2 q j)) ?_ (by pointwise)
  refine Eq.trans (b := chunkVal m ρ (half c (j.val / 4096)) ⟨j.val % 4096 / 512, by omega⟩ (ix2 r (⟨j.val % 512, by omega⟩ : Fin 512))) ?_ ?_
  · unfold logits
    refine congrArg (chunkVal m ρ (half c (j.val / 4096)) ⟨j.val % 4096 / 512, by omega⟩) ?_
    funext a
    match a with
    | 0 => rfl
    | 1 => rfl
  rw [chunkVal_apply, hX, hW]
  refine Finset.sum_congr rfl fun q _ => ?_
  rw [Layout.blockN_apply]
  refine congrArg (fun t => X (ix2 r q) * W t) ?_
  funext a
  match a with
  | 0 => exact Fin.ext (by show 0 * 512 + q.val = q.val; omega)
  | 1 => exact Fin.ext (by
      show ((j.val / 4096 % 2 * 8 + c.val % 8) / 8 % 2 * 1 + 0) * 4096 + (512 * (j.val % 4096 / 512) + j.val % 512) = j.val
      omega)

end Cert.Exchange

end
-- ==== Proof.lean ====
/- The kernel's softmax of a matrix product, its columns computed by two devices and exchanged, against the reference:
   every run ends with the arguments unchanged and every counter at zero, and over the extended reals the results agree. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Idealize.ShloMosaic.TcCoe Cert.Exchange

/-- The kernel, for any float values: it ends, with its arguments unchanged and every counter at zero. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c 0).trans (final_x m ρ c), (h.1 c 1).trans (final_w m ρ c)⟩, h.2⟩)
    (run_main m ρ)

/-- The two programs have the same body table. -/
theorem bodies_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl

/-- Hence the same table with their pipelines. -/
theorem defs_eq : Cert.Kernel.defs (F := Bits) = Cert.KernelIdeal.defs (F := Bits) := by
  unfold Cert.Kernel.defs Cert.KernelIdeal.defs
  exact congrArg (Pipeline.defs (Cert.KernelIdeal.pcfgs (F := Bits))) bodies_eq

/-- The kernel on float bits has the same text, so its run is the same. -/
theorem frame_kernel : Cert.quiescent_Kernel := fun m ρ _ => by
  rw [defs_eq]
  exact frame_any (F := Bits) m ρ

/-- The kernel over the extended reals. -/
theorem frame_ideal : Cert.quiescent_KernelIdeal := fun m ρ _ => frame_any (F := Ideal) m ρ

/-- The reference ends with its arguments unchanged; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference end with one result, on every device. -/
theorem same_result : Cert.algebraic_KernelIdeal_ReferenceIdeal := by
  intro m ρ m' ρ' _ hagree
  let X : FVec Ideal Cert.ReferenceIdeal.S256x512 .f32 := m' (((0 : Dev Cert.ReferenceIdeal.nD).tc : Thread Cert.ReferenceIdeal.nD Cert.ReferenceIdeal.τ).loc Cert.ReferenceIdeal.main_arg0)
  let W : FVec Ideal Cert.ReferenceIdeal.S512x8192 .f32 := m' (((0 : Dev Cert.ReferenceIdeal.nD).tc : Thread Cert.ReferenceIdeal.nD Cert.ReferenceIdeal.τ).loc Cert.ReferenceIdeal.main_arg1)
  refine ⟨softmax (Host.dotGeneral Cert.ReferenceIdeal.dot_S256x512_S512x8192_S256x8192_1_0_0_1_n_n none X W), ?_, ?_⟩
  · refine (θ_run Cert.KernelIdeal.defs _ _).mono (fun _ h c => ⟨?_, (h.1 c 0).trans (final_x m ρ c), (h.1 c 1).trans (final_w m ρ c)⟩) (run_main (F := Ideal) m ρ)
    refine (h.1 c 2).trans ((final_out m ρ c).trans ?_)
    refine (softmax_eq _).trans (congrArg softmax ?_)
    exact logits_eq m ρ X W (fun c => (hagree c).1) (fun c => (hagree c).2) c
  · exact (θ_run Cert.ReferenceIdeal.defs _ _).mono (fun r h => h 0) (Cert.ReferenceIdeal.Value.run (F := Ideal) m' ρ')

/-- All five claims. -/
theorem claim : Cert.Claim := ⟨Cert.Kernel.Gen.facts, Cert.KernelIdeal.Gen.facts, Cert.ReferenceIdeal.Gen.facts,
  frame_kernel, frame_ideal, frame_reference, trivial, same_result⟩

end Cert.Proof

end
